-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_448" .f32 0x3B124925#32 ((1 / 448 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  bcast_S_S128x256 : S_.BroadcastsInDim S128x256 (![] : Fin 0 → Fin S128x256.rank)
  bcast_S_S256 : S_.BroadcastsInDim S256 (![] : Fin 0 → Fin S256.rank)
  bcast_S_S256x128 : S_.BroadcastsInDim S256x128 (![] : Fin 0 → Fin S256x128.rank)
  bcast_S_S128 : S_.BroadcastsInDim S128 (![] : Fin 0 → Fin S128.rank)
  bcast_S_S128x64 : S_.BroadcastsInDim S128x64 (![] : Fin 0 → Fin S128x64.rank)
  bcast_S_S64 : S_.BroadcastsInDim S64 (![] : Fin 0 → Fin S64.rank)
  bcast_S_S64x40 : S_.BroadcastsInDim S64x40 (![] : Fin 0 → Fin S64x40.rank)

variable [Facts]

def fn_part1 {F : FTy → Type} [FloatOps F] (main_arg6 : FVec F S128x64 .f32) (main_arg7 : FVec F S64 .f32) (main_arg8 : FVec F S64x40 .f32) (main_v2 : IVec S10000x128 1) (main_v5 : IVec S10000x10000 1) (main_v8 : IVec S128x256 1) (main_v11 : IVec S256 1) (main_v14 : IVec S256x128 1) (main_v17 : IVec S128 1) : IVec S10000x128 1 × IVec S10000x10000 1 × IVec S128x256 1 × IVec S256 1 × IVec S256x128 1 × IVec S128 1 × IVec S128x64 1 × IVec S64 1 × IVec S64x40 1 :=
  let main_v18 : FVec F S128x64 .f32 := Host.absf main_arg6
  let main_cst_5 : FVec F S_ .f32 := constant S_ .f32 0x7F800000#32
  let main_v19 : FVec F S128x64 .f32 := broadcastInDim S128x64 ![] bcast_S_S128x64 main_cst_5
  let main_v20 : IVec S128x64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64x40 .f32 := Host.absf main_arg8
  let main_cst_7 : FVec F S_ .f32 := constant S_ .f32 0x7F800000#32
  let main_v25 : FVec F S64x40 .f32 := broadcastInDim S64x40 ![] bcast_S_S64x40 main_cst_7
  let main_v26 : IVec S64x40 1 := cmpf .olt main_v24 main_v25
  (main_v2, main_v5, main_v8, main_v11, main_v14, main_v17, main_v20, main_v23, main_v26)

def fn {F : FTy → Type} [FloatOps F] (main_arg0 : FVec F S10000x128 .f32) (main_arg1 : FVec F S10000x10000 .f32) (main_arg2 : FVec F S128x256 .f32) (main_arg3 : FVec F S256 .f32) (main_arg4 : FVec F S256x128 .f32) (main_arg5 : FVec F S128 .f32) (main_arg6 : FVec F S128x64 .f32) (main_arg7 : FVec F S64 .f32) (main_arg8 : FVec F S64x40 .f32) (main_arg9 : FVec F S40 .f32) : IVec S10000x128 1 × IVec S10000x10000 1 × IVec S128x256 1 × IVec S256 1 × IVec S256x128 1 × IVec S128 1 × IVec S128x64 1 × IVec S64 1 × IVec S64x40 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S128x256 .f32 := Host.absf main_arg2
  let main_cst_1 : FVec F S_ .f32 := constant S_ .f32 0x7F800000#32
  let main_v7 : FVec F S128x256 .f32 := broadcastInDim S128x256 ![] bcast_S_S128x256 main_cst_1
  let main_v8 : IVec S128x256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x128 .f32 := Host.absf main_arg4
  let main_cst_3 : FVec F S_ .f32 := constant S_ .f32 0x7F800000#32
  let main_v13 : FVec F S256x128 .f32 := broadcastInDim S256x128 ![] bcast_S_S256x128 main_cst_3
  let main_v14 : IVec S256x128 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg6 main_arg7 main_arg8 main_v2 main_v5 main_v8 main_v11 main_v14 main_v17
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x256 : Shape := ⟨2, ![1, 256]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩
abbrev S1x128 : Shape := ⟨2, ![1, 128]⟩
abbrev S1x64 : Shape := ⟨2, ![1, 64]⟩
abbrev S1x40 : Shape := ⟨2, ![1, 40]⟩
abbrev S10000x40 : Shape := ⟨2, ![10000, 40]⟩
abbrev S1000x10000 : Shape := ⟨2, ![1000, 10000]⟩
abbrev S1000x40 : Shape := ⟨2, ![1000, 40]⟩
abbrev S10x1000x128 : Shape := ⟨3, ![10, 1000, 128]⟩
abbrev S10x1000x64 : Shape := ⟨3, ![10, 1000, 64]⟩
abbrev S1x10000x128 : Shape := ⟨3, ![1, 10000, 128]⟩
abbrev S1 : Shape := ⟨1, ![1]⟩
abbrev S1x1x1 : Shape := ⟨3, ![1, 1, 1]⟩
abbrev S10000x64 : Shape := ⟨2, ![10000, 64]⟩
abbrev S1x1 : Shape := ⟨2, ![1, 1]⟩
abbrev S10x1000x40 : Shape := ⟨3, ![10, 1000, 40]⟩
abbrev S1000x128 : Shape := ⟨2, ![1000, 128]⟩
abbrev S1x1000x128 : Shape := ⟨3, ![1, 1000, 128]⟩
abbrev S1000x64 : Shape := ⟨2, ![1000, 64]⟩
abbrev S1x1000x64 : Shape := ⟨3, ![1, 1000, 64]⟩
abbrev S1x1000x40 : Shape := ⟨3, ![1, 1000, 40]⟩
abbrev S1000 : Shape := ⟨1, ![1000]⟩
abbrev S1000x1 : Shape := ⟨2, ![1000, 1]⟩

abbrev nBuf : Space → Nat
  | .hbm => 20
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x256, .f32⟩
  | .hbm, ⟨11, _⟩ => ⟨S256x128, .bf16⟩
  | .hbm, ⟨12, _⟩ => ⟨S10000x128, .bf16⟩
  | .hbm, ⟨13, _⟩ => ⟨S10000x10000, .fp8e4m3⟩
  | .hbm, ⟨14, _⟩ => ⟨S1x128, .f32⟩
  | .hbm, ⟨15, _⟩ => ⟨S128x64, .bf16⟩
  | .hbm, ⟨16, _⟩ => ⟨S1x64, .f32⟩
  | .hbm, ⟨17, _⟩ => ⟨S64x40, .bf16⟩
  | .hbm, ⟨18, _⟩ => ⟨S1x40, .f32⟩
  | .hbm, ⟨19, _⟩ => ⟨S10000x40, .f32⟩
  | .local _ .vmem, ⟨0, _⟩ => ⟨S10000x128, .f32⟩
  | .local _ .vmem, ⟨1, _⟩ => ⟨S128x256, .f32⟩
  | .local _ .vmem, ⟨2, _⟩ => ⟨S1x256, .f32⟩
  | .local _ .vmem, ⟨3, _⟩ => ⟨S256x128, .bf16⟩
  | .local _ .vmem, ⟨4, _⟩ => ⟨S400x10000, .f32⟩
  | .local _ .vmem, ⟨5, _⟩ => ⟨S400x10000, .f32⟩
  | .local _ .vmem, ⟨6, _⟩ => ⟨S400x128, .bf16⟩
  | .local _ .vmem, ⟨7, _⟩ => ⟨S400x128, .bf16⟩
  | .local _ .vmem, ⟨8, _⟩ => ⟨S400x10000, .fp8e4m3⟩
  | .local _ .vmem, ⟨9, _⟩ => ⟨S400x10000, .fp8e4m3⟩
  | .local _ .vmem, ⟨10, _⟩ => ⟨S10000x256, .bf16⟩
  | .local _ .vmem, ⟨11, _⟩ => ⟨S10000x128, .bf16⟩
  | .local _ .vmem, ⟨12, _⟩ => ⟨S1x128, .f32⟩
  | .local _ .vmem, ⟨13, _⟩ => ⟨S128x64, .bf16⟩
  | .local _ .vmem, ⟨14, _⟩ => ⟨S1x64, .f32⟩
  | .local _ .vmem, ⟨15, _⟩ => ⟨S64x40, .bf16⟩
  | .local _ .vmem, ⟨16, _⟩ => ⟨S1x40, .f32⟩
  | .local _ .vmem, ⟨17, _⟩ => ⟨S1000x10000, .fp8e4m3⟩
  | .local _ .vmem, ⟨18, _⟩ => ⟨S1000x10000, .fp8e4m3⟩
  | .local _ .vmem, ⟨19, _⟩ => ⟨S1000x40, .f32⟩
  | .local _ .vmem, ⟨20, _⟩ => ⟨S1000x40, .f32⟩
  | .local _ .vmem, ⟨21, _⟩ => ⟨S10x1000x128, .bf16⟩
  | .local _ .vmem, ⟨22, _⟩ => ⟨S10000x128, .fp8e4m3⟩
  | .local _ .vmem, ⟨23, _⟩ => ⟨S1x128, .f32⟩
  | .local _ .vmem, ⟨24, _⟩ => ⟨S1x128, .f32⟩
  | .local _ .vmem, ⟨25, _⟩ => ⟨S10x1000x64, .f32⟩
  | .local _ .vmem, ⟨26, _⟩ => ⟨S1x64, .f32⟩
  | .local _ .vmem, ⟨27, _⟩ => ⟨S1x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc1_scratch6 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![3, 10], ![false, false]⟩

def k1_cond4 (i : grid1.Coords) : BitVec 1 :=
  let arg0 : BitVec 32 := BitVec.ofNat 32 (i 0).val
  let c0_i32_6 : BitVec 32 := 0#32
  let v15 : BitVec 1 := Scalar.cmpi .eq arg0 c0_i32_6
  let v16 : BitVec 32 := Scalar.extui v15
  let c0_i32_7 : BitVec 32 := 0#32
  let v17 : BitVec 1 := Scalar.cmpi .ne v16 c0_i32_7
  v17

def k1_off1 (i : grid1.Coords) : Fin 3 → Nat :=
  let arg1 : BitVec 32 := BitVec.ofNat 32 (i 1).val
  let v43 : Index := Scalar.indexCast arg1
  let c0_22 : Index := 0#32
  let c0_23 : Index := 0#32
  ![v43.toNat, 0, 0]
def k1_off2 (i : grid1.Coords) : Fin 3 → Nat :=
  let arg1 : BitVec 32 := BitVec.ofNat 32 (i 1).val
  let v50 : Index := Scalar.indexCast arg1
  let c0_27 : Index := 0#32
  let c0_28 : Index := 0#32
  ![v50.toNat, 0, 0]
def k1_cond5 (i : grid1.Coords) : BitVec 1 :=
  let arg0 : BitVec 32 := BitVec.ofNat 32 (i 0).val
  let c1_i32_8 : BitVec 32 := 1#32
  let v18 : BitVec 1 := Scalar.cmpi .eq arg0 c1_i32_8
  let v19 : BitVec 32 := Scalar.extui v18
  let c0_i32_9 : BitVec 32 := 0#32
  let v20 : BitVec 1 := Scalar.cmpi .ne v19 c0_i32_9
  v20

def k1_off3 (i : grid1.Coords) : Fin 3 → Nat :=
  let arg1 : BitVec 32 := BitVec.ofNat 32 (i 1).val
  let v43 : Index := Scalar.indexCast arg1
  let c0_22 : Index := 0#32
  let c0_23 : Index := 0#32
  ![v43.toNat, 0, 0]
def k1_off4 (i : grid1.Coords) : Fin 3 → Nat :=
  let arg1 : BitVec 32 := BitVec.ofNat 32 (i 1).val
  let v50 : Index := Scalar.indexCast arg1
  let c0_27 : Index := 0#32
  let c0_28 : Index := 0#32
  ![v50.toNat, 0, 0]
def k1_cond6 (i : grid1.Coords) : BitVec 1 :=
  let arg0 : BitVec 32 := BitVec.ofNat 32 (i 0).val
  let c2_i32_10 : BitVec 32 := 2#32
  let v21 : BitVec 1 := Scalar.cmpi .eq arg0 c2_i32_10
  let v22 : BitVec 32 := Scalar.extui v21
  let c0_i32_11 : BitVec 32 := 0#32
  let v23 : BitVec 1 := Scalar.cmpi .ne v22 c0_i32_11
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 1 → Memref sig .tc .vmem S10000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1000x10000 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "inv_448" => some ((1 / 448 : ℝ) : EReal)
  | _ => none
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S10000x256 : Shape := ⟨2, ![10000, 256]⟩
abbrev S1x256 : Shape := ⟨2, ![1, 256]⟩
abbrev S_ : Shape := ⟨0, ![]⟩
abbrev S1x128 : Shape := ⟨2, ![1, 128]⟩
abbrev S10000x64 : Shape := ⟨2, ![10000, 64]⟩
abbrev S1x64 : Shape := ⟨2, ![1, 64]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 57
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x40, .f32⟩
  | .hbm, ⟨35, _⟩ => ⟨S10000x40, .f32⟩
  | .hbm, ⟨36, _⟩ => ⟨S1x40, .f32⟩
  | .hbm, ⟨37, _⟩ => ⟨S10000x40, .f32⟩
  | .hbm, ⟨38, _⟩ => ⟨S10000x40, .f32⟩
  | .hbm, ⟨39, _⟩ => ⟨S_, .f32⟩
  | .hbm, ⟨40, _⟩ => ⟨S10000x40, .f32⟩
  | .hbm, ⟨41, _⟩ => ⟨S10000x40, .f32⟩
  | .hbm, ⟨42, _⟩ => ⟨S_, .f32⟩
  | .hbm, ⟨43, _⟩ => ⟨S10000, .f32⟩
  | .hbm, ⟨44, _⟩ => ⟨S_, .f32⟩
  | .hbm, ⟨45, _⟩ => ⟨S10000, .f32⟩
  | .hbm, ⟨46, _⟩ => ⟨S10000, .f32⟩
  | .hbm, ⟨47, _⟩ => ⟨S10000x1, .f32⟩
  | .hbm, ⟨48, _⟩ => ⟨S10000x40, .f32⟩
  | .hbm, ⟨49, _⟩ => ⟨S10000x40, .f32⟩
  | .hbm, ⟨50, _⟩ => ⟨S10000x40, .f32⟩
  | .hbm, ⟨51, _⟩ => ⟨S_, .f32⟩
  | .hbm, ⟨52, _⟩ => ⟨S10000, .f32⟩
  | .hbm, ⟨53, _⟩ => ⟨S10000x1, .f32⟩
  | .hbm, ⟨54, _⟩ => ⟨S10000x1, .f32⟩
  | .hbm, ⟨55, _⟩ => ⟨S10000x40, .f32⟩
  | .hbm, ⟨56, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_v23 : Ref sig .tc := ⟨.hbm, 41, rfl⟩
abbrev main_call4_cst : Ref sig .tc := ⟨.hbm, 42, rfl⟩
abbrev main_call4_v0 : Ref sig .tc := ⟨.hbm, 43, rfl⟩
abbrev main_call4_cst_0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_cst_1 : Ref sig .tc := ⟨.hbm, 51, rfl⟩
abbrev main_call4_v7 : Ref sig .tc := ⟨.hbm, 52, rfl⟩
abbrev main_call4_v8 : Ref sig .tc := ⟨.hbm, 53, rfl⟩
abbrev main_call4_v9 : Ref sig .tc := ⟨.hbm, 54, rfl⟩
abbrev main_call4_v10 : Ref sig .tc := ⟨.hbm, 55, rfl⟩
abbrev main_v24 : Ref sig .tc := ⟨.hbm, 56, rfl⟩

abbrev nD : Nat := 1
abbrev τ : Topo := Topo.v7x

variable {F : FTy → Type} [FloatOps F]
-- ==== Proof.KernelIdeal.Body.lean ====
module

public import proofs.«01_k».proof.Proof.Gen.KernelIdeal.Skeleton
public import proofs.«01_k».proof.Proof.Gen.KernelIdeal.Points
public import Idealize.ShloMosaic.Lib.Pipeline.Frame
public import Idealize.ShloMosaic.Lib.Tactic
public import Idealize.ShloMosaic.Lib.VecWindow

/-!
The two bodies of the kernel, run at a grid point: what each leaves in every buffer it was given, stated on the
contents it found there.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-- A store of part of a buffer, read back whole: the older contents with the stored part put in. -/
theorem read_writes_unit {sig : RefSig} {κ : Kind} {sp : Space} {s : Shape} {e : EltTy} {Val : EltTy → Type}
    (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A load of exactly the part stored last reads what was stored. -/
theorem readCov_same {sig : RefSig} {κ : Kind} {sp : Space} {s : Shape} {e : EltTy} {Val : EltTy → Type} [∀ e, Nonempty (Val e)]
    (v : View sig κ sp s e) {off size : Fin s.rank → ℕ} (inb : ∀ a, off a + size a ≤ s.size a)
    (w : (Rect.unit off size inb).shape.Idx → Val e) (L : List (View.Piece Val s e)) :
    v.readCov (⟨Rect.unit off size inb, w⟩ :: L) (Rect.unit off size inb).toLoadRect = w := by
  show v.readAt Val _ (v.writes Val v.junk _) = w
  rw [View.readAt_unit v _ inb rfl inb, read_writes_unit, VecWindow.window_put_same]

/-- A load of exactly the part stored last reads what was stored, whatever lay under it. -/
theorem readAt_writes_same {sig : RefSig} {κ : Kind} {sp : Space} {s : Shape} {e : EltTy} {Val : EltTy → Type}
    (v : View sig κ sp s e) (f : v.ty.Contents Val) {off size : Fin s.rank → ℕ} (inb : ∀ a, off a + size a ≤ s.size a)
    (w : (Rect.unit off size inb).shape.Idx → Val e) (L : List (View.Piece Val s e)) :
    v.readAt Val (Rect.unit off size inb).toLoadRect (v.writes Val f (⟨Rect.unit off size inb, w⟩ :: L)) = w := by
  rw [View.readAt_unit v _ inb rfl inb, read_writes_unit, VecWindow.window_put_same]

/-- The first body at the first grid point: the support is computed and kept, the two result blocks are stored. -/
theorem run0_first (c : Dev nD) (i : grid0.Coords) (hi : (i 0).val = 0)
    (a1 : Memref sig .tc .vmem S10000x128 .f32) (ha1 : a1.IsWhole)
    (a2 : Memref sig .tc .vmem S128x256 .f32) (ha2 : a2.IsWhole)
    (a3 : Memref sig .tc .vmem S1x256 .f32) (ha3 : a3.IsWhole)
    (a4 : Memref sig .tc .vmem S256x128 .bf16) (ha4 : a4.IsWhole)
    (a5 : Memref sig .tc .vmem S400x10000 .f32) (ha5 : a5.IsWhole)
    (a6 : Memref sig .tc .vmem S400x128 .bf16) (ha6 : a6.IsWhole)
    (a7 : Memref sig .tc .vmem S400x10000 .fp8e4m3) (ha7 : a7.IsWhole)
    (a8 : Memref sig .tc .vmem S10000x256 .bf16) (ha8 : a8.IsWhole)
    (x1 : S10000x128.Idx → Elt F .f32) (x2 : S128x256.Idx → Elt F .f32) (x3 : S1x256.Idx → Elt F .f32) (x4 : S256x128.Idx → Elt F .bf16) (x5 : S400x10000.Idx → Elt F .f32) (K : PUnit → sProp 𝕄) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ (∃ d, owns (c : Thread nD τ) a6 fullShare d)
        ∗ (∃ d, owns (c : Thread nD τ) a7 fullShare d)
        ∗ (∃ d, owns (c : Thread nD τ) a8 fullShare d)
        ∗ (iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare (k0_pay3 x5 (k0_pay1 x1 x2) x3 x4)
        ∗ owns (c : Thread nD τ) a7 fullShare (k0_pay2 x5)
        ∗ owns (c : Thread nD τ) a8 fullShare (k0_pay1 x1 x2)) -∗ K ⟨⟩))
      ⊢ wp frame (wpE (defs₀ (F := F)) Variants.none c none) Set.univ
          (cc0__layer1_body i a1 ha1 a2 ha2 a3 ha3 a4 ha4 a5 ha5 a6 ha6 a7 ha7 a8 ha8) K := by
  simp only [cc0__layer1_body_eq_skeleton]; unfold cc0__layer1_body_skel
  unfold owns
  iintro ⟨⟨%fa1, %ea1, Ha1⟩, ⟨%fa2, %ea2, Ha2⟩, ⟨%fa3, %ea3, Ha3⟩, ⟨%fa4, %ea4, Ha4⟩, ⟨%fa5, %ea5, Ha5⟩, ⟨%da6, %fa6, -, Ha6⟩, ⟨%da7, %fa7, -, Ha7⟩, ⟨%da8, %fa8, -, Ha8⟩, Hk⟩
  subst ea1
  subst ea2
  subst ea3
  subst ea4
  subst ea5
  have hc : Scalar.cmpi .ne (Scalar.extui (Scalar.cmpi .eq (BitVec.ofNat 32 (i 0).val) 0#32) : BitVec 32) 0#32 = 1#1 := by rw [hi]; decide
  sl_exec (disch := sl_exact hc)
  sl_step
  iapply Hk
  isplitl [Ha1]
  · iexists fa1; isplitr; swap; · iexact Ha1
    ipureintro; rfl
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists _; isplitr; swap; · iexact Ha6
    ipureintro
    sl_unfold_run_names
    repeat rw [View.read_writes_full]
    repeat rw [read_writes_unit]
    repeat rw [View.readCov_full]
    repeat rw [readCov_same]
    repeat rw [View.readAt_full]
    all_goals rfl
  isplitl [Ha7]
  · iexists _; isplitr; swap; · iexact Ha7
    ipureintro
    sl_unfold_run_names
    repeat rw [View.read_writes_full]
    repeat rw [read_writes_unit]
    repeat rw [View.readCov_full]
    repeat rw [readCov_same]
    repeat rw [View.readAt_full]
    all_goals rfl
  iexists _; isplitr; swap; · iexact Ha8
  ipureintro
  sl_unfold_run_names
  repeat rw [View.read_writes_full]
  repeat rw [read_writes_unit]
  repeat rw [View.readCov_full]
  repeat rw [readCov_same]
  repeat rw [View.readAt_full]
  all_goals rfl

/-- The first body at a later grid point: the support is the one kept. -/
theorem run0_later (c : Dev nD) (i : grid0.Coords) (hc : ¬ Scalar.cmpi .ne (Scalar.extui (Scalar.cmpi .eq (BitVec.ofNat 32 (i 0).val) 0#32) : BitVec 32) 0#32 = 1#1)
    (a1 : Memref sig .tc .vmem S10000x128 .f32) (ha1 : a1.IsWhole)
    (a2 : Memref sig .tc .vmem S128x256 .f32) (ha2 : a2.IsWhole)
    (a3 : Memref sig .tc .vmem S1x256 .f32) (ha3 : a3.IsWhole)
    (a4 : Memref sig .tc .vmem S256x128 .bf16) (ha4 : a4.IsWhole)
    (a5 : Memref sig .tc .vmem S400x10000 .f32) (ha5 : a5.IsWhole)
    (a6 : Memref sig .tc .vmem S400x128 .bf16) (ha6 : a6.IsWhole)
    (a7 : Memref sig .tc .vmem S400x10000 .fp8e4m3) (ha7 : a7.IsWhole)
    (a8 : Memref sig .tc .vmem S10000x256 .bf16) (ha8 : a8.IsWhole)
    (x1 : S10000x128.Idx → Elt F .f32) (x2 : S128x256.Idx → Elt F .f32) (x3 : S1x256.Idx → Elt F .f32) (x4 : S256x128.Idx → Elt F .bf16) (x5 : S400x10000.Idx → Elt F .f32) (x8 : S10000x256.Idx → Elt F .bf16) (K : PUnit → sProp 𝕄) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ (∃ d, owns (c : Thread nD τ) a6 fullShare d)
        ∗ (∃ d, owns (c : Thread nD τ) a7 fullShare d)
        ∗ owns (c : Thread nD τ) a8 fullShare x8
        ∗ (iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare (k0_pay3 x5 x8 x3 x4)
        ∗ owns (c : Thread nD τ) a7 fullShare (k0_pay2 x5)
        ∗ owns (c : Thread nD τ) a8 fullShare x8) -∗ K ⟨⟩))
      ⊢ wp frame (wpE (defs₀ (F := F)) Variants.none c none) Set.univ
          (cc0__layer1_body i a1 ha1 a2 ha2 a3 ha3 a4 ha4 a5 ha5 a6 ha6 a7 ha7 a8 ha8) K := by
  simp only [cc0__layer1_body_eq_skeleton]; unfold cc0__layer1_body_skel
  unfold owns
  iintro ⟨⟨%fa1, %ea1, Ha1⟩, ⟨%fa2, %ea2, Ha2⟩, ⟨%fa3, %ea3, Ha3⟩, ⟨%fa4, %ea4, Ha4⟩, ⟨%fa5, %ea5, Ha5⟩, ⟨%da6, %fa6, -, Ha6⟩, ⟨%da7, %fa7, -, Ha7⟩, ⟨%fa8, %ea8, Ha8⟩, Hk⟩
  subst ea1
  subst ea2
  subst ea3
  subst ea4
  subst ea5
  subst ea8
  sl_exec (disch := sl_exact hc)
  sl_step
  iapply Hk
  isplitl [Ha1]
  · iexists fa1; isplitr; swap; · iexact Ha1
    ipureintro; rfl
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists _; isplitr; swap; · iexact Ha6
    ipureintro
    sl_unfold_run_names
    repeat rw [View.read_writes_full]
    repeat rw [read_writes_unit]
    repeat rw [View.readCov_full]
    repeat rw [readCov_same]
    repeat rw [View.readAt_full]
    all_goals rfl
  isplitl [Ha7]
  · iexists _; isplitr; swap; · iexact Ha7
    ipureintro
    sl_unfold_run_names
    repeat rw [View.read_writes_full]
    repeat rw [read_writes_unit]
    repeat rw [View.readCov_full]
    repeat rw [readCov_same]
    repeat rw [View.readAt_full]
    all_goals rfl
  iexists fa8; isplitr; swap; · iexact Ha8
  ipureintro; rfl

/-- What the seven scratch buffers of the second body hold. -/
structure St (F : FTy → Type) where
  hs : S10x1000x128.Idx → Elt F .bf16
  ss : S10000x128.Idx → Elt F .fp8e4m3
  cs : S1x128.Idx → Elt F .f32
  sc : S1x128.Idx → Elt F .f32
  sf : S10x1000x64.Idx → Elt F .f32
  acs : S1x64.Idx → Elt F .f32
  acm : S1x64.Idx → Elt F .f32

/-- The first `n` columns of the kept integers, for the three widths in use. -/
def St.ss64 (s : St F) : S10000x64.Idx → Elt F .fp8e4m3 := VecWindow.window s.ss ![0, 0] S10000x64.size inb_S10000x128_S10000x64_0_0
def St.ss40 (s : St F) : S10000x40.Idx → Elt F .fp8e4m3 := VecWindow.window s.ss ![0, 0] S10000x40.size inb_S10000x128_S10000x40_0_0
def St.cs64 (s : St F) : S1x64.Idx → Elt F .f32 := VecWindow.window s.cs ![0, 0] S1x64.size inb_S1x128_S1x64_0_0
def St.cs40 (s : St F) : S1x40.Idx → Elt F .f32 := VecWindow.window s.cs ![0, 0] S1x40.size inb_S1x128_S1x40_0_0
def St.sc64 (s : St F) : S1x64.Idx → Elt F .f32 := VecWindow.window s.sc ![0, 0] S1x64.size inb_S1x128_S1x64_0_0
def St.sc40 (s : St F) : S1x40.Idx → Elt F .f32 := VecWindow.window s.sc ![0, 0] S1x40.size inb_S1x128_S1x40_0_0
def St.acs40 (s : St F) : S1x40.Idx → Elt F .f32 := VecWindow.window s.acs ![0, 0] S1x40.size inb_S1x64_S1x40_0_0
def St.acm40 (s : St F) : S1x40.Idx → Elt F .f32 := VecWindow.window s.acm ![0, 0] S1x40.size inb_S1x64_S1x40_0_0

/-- The quantisation of the first layer's operand. -/
def St.quant0 (s2 : S10000x128.Idx → Elt F .bf16) (s : St F) : St F :=
  { s with ss := k1_pay5 s2, cs := k1_pay6 s2, sc := k1_pay7 s2 }

/-- The quantisation of the second layer's operand, in the first 64 columns. -/
def St.quant1 (s : St F) : St F :=
  { s with
    ss := VecWindow.put s.ss ![0, 0] S10000x64.size (k1_pay11 s.sf s.acm)
    cs := VecWindow.put s.cs ![0, 0] S1x64.size (k1_pay12 s.sf s.acm s.acs)
    sc := VecWindow.put s.sc ![0, 0] S1x64.size (k1_pay13 s.acm) }

/-- The quantisation of the third layer's operand, in the first 40 columns. -/
def St.quant2 (s : St F) : St F :=
  { s with
    ss := VecWindow.put s.ss ![0, 0] S10000x40.size (k1_pay17 s.sf s.acm40)
    cs := VecWindow.put s.cs ![0, 0] S1x40.size (k1_pay18 s.sf s.acm40 s.acs40)
    sc := VecWindow.put s.sc ![0, 0] S1x40.size (k1_pay19 s.acm40) }

/-- What the second layer reads of the buffers just quantised. -/
theorem St.quant1_ss64 (s : St F) : s.quant1.ss64 = k1_pay11 s.sf s.acm := VecWindow.window_put_same _ _ _ _ _
theorem St.quant1_cs64 (s : St F) : s.quant1.cs64 = k1_pay12 s.sf s.acm s.acs := VecWindow.window_put_same _ _ _ _ _
theorem St.quant1_sc64 (s : St F) : s.quant1.sc64 = k1_pay13 s.acm := VecWindow.window_put_same _ _ _ _ _

/-- What the third layer reads of the buffers just quantised. -/
theorem St.quant2_ss40 (s : St F) : s.quant2.ss40 = k1_pay17 s.sf s.acm40 := VecWindow.window_put_same _ _ _ _ _
theorem St.quant2_cs40 (s : St F) : s.quant2.cs40 = k1_pay18 s.sf s.acm40 s.acs40 := VecWindow.window_put_same _ _ _ _ _
theorem St.quant2_sc40 (s : St F) : s.quant2.sc40 = k1_pay19 s.acm40 := VecWindow.window_put_same _ _ _ _ _

/-- One row block of the first layer. -/
def St.layer0 (i : grid1.Coords) (b2 : S1x128.Idx → Elt F .f32) (w3 : S128x64.Idx → Elt F .bf16)
    (A : S1000x10000.Idx → Elt F .fp8e4m3) (s : St F) : St F :=
  { s with
    hs := VecWindow.put s.hs (k1_off1 i) S1x1000x128.size (k1_pay26 A s.ss s.sc s.cs b2)
    sf := VecWindow.put s.sf (k1_off2 i) S1x1000x64.size (k1_pay28 A s.ss s.sc s.cs b2 w3)
    acs := k1_pay20 (k1_pay27 A s.ss s.sc s.cs b2 w3) (k1_pay29 (BitVec.ofNat 32 (i 1).val) s.acs)
    acm := k1_pay21 (k1_pay27 A s.ss s.sc s.cs b2 w3) (Scalar.cmpi .eq (BitVec.ofNat 32 (i 1).val) 0#32) s.acm }

/-- One row block of the second layer. -/
def St.layer1 (i : grid1.Coords) (b3 : S1x64.Idx → Elt F .f32) (w4 : S64x40.Idx → Elt F .bf16)
    (A : S1000x10000.Idx → Elt F .fp8e4m3) (s : St F) : St F :=
  { s with
    hs := VecWindow.put s.hs (k1_off3 i) S1x1000x64.size (k1_pay31 A s.ss64 s.sc64 s.cs64 b3)
    sf := VecWindow.put s.sf (k1_off4 i) S1x1000x40.size (k1_pay33 A s.ss64 s.sc64 s.cs64 b3 w4)
    acs := VecWindow.put s.acs ![0, 0] S1x40.size
      (k1_pay22 (k1_pay32 A s.ss64 s.sc64 s.cs64 b3 w4) (k1_pay34 (BitVec.ofNat 32 (i 1).val) s.acs40))
    acm := VecWindow.put s.acm ![0, 0] S1x40.size
      (k1_pay23 (k1_pay32 A s.ss64 s.sc64 s.cs64 b3 w4) (Scalar.cmpi .eq (BitVec.ofNat 32 (i 1).val) 0#32) s.acm40) }

/-- One row block of the result. -/
def St.final (b4 : S1x40.Idx → Elt F .f32) (A : S1000x10000.Idx → Elt F .fp8e4m3) (s : St F) : S1000x40.Idx → Elt F .f32 :=
  k1_pay24 A s.ss40 s.sc40 s.cs40 b4

set_option maxHeartbeats 1000000 in
/-- The second body at the first row block of layer 1 of 3. -/
theorem run1_0_first (c : Dev nD) (i : grid1.Coords)
    (hq0 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (hq1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (hq2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (hl0 : k1_cond4 i = 1#1)
    (hl1 : ¬ k1_cond5 i = 1#1)
    (hl2 : ¬ k1_cond6 i = 1#1)
    (a2 : Memref sig .tc .vmem S10000x128 .bf16) (ha2 : a2.IsWhole)
    (a3 : Memref sig .tc .vmem S1x128 .f32) (ha3 : a3.IsWhole)
    (a4 : Memref sig .tc .vmem S128x64 .bf16) (ha4 : a4.IsWhole)
    (a5 : Memref sig .tc .vmem S1x64 .f32) (ha5 : a5.IsWhole)
    (a6 : Memref sig .tc .vmem S64x40 .bf16) (ha6 : a6.IsWhole)
    (a7 : Memref sig .tc .vmem S1x40 .f32) (ha7 : a7.IsWhole)
    (a8 : Memref sig .tc .vmem S1000x10000 .fp8e4m3) (ha8 : a8.IsWhole)
    (a9 : Memref sig .tc .vmem S1000x40 .f32) (ha9 : a9.IsWhole)
    (a10 : Memref sig .tc .vmem S10x1000x128 .bf16) (ha10 : a10.IsWhole)
    (a11 : Memref sig .tc .vmem S10000x128 .fp8e4m3) (ha11 : a11.IsWhole)
    (a12 : Memref sig .tc .vmem S1x128 .f32) (ha12 : a12.IsWhole)
    (a13 : Memref sig .tc .vmem S1x128 .f32) (ha13 : a13.IsWhole)
    (a14 : Memref sig .tc .vmem S10x1000x64 .f32) (ha14 : a14.IsWhole)
    (a15 : Memref sig .tc .vmem S1x64 .f32) (ha15 : a15.IsWhole)
    (a16 : Memref sig .tc .vmem S1x64 .f32) (ha16 : a16.IsWhole)
    (x2 : S10000x128.Idx → Elt F .bf16) (x3 : S1x128.Idx → Elt F .f32) (x4 : S128x64.Idx → Elt F .bf16) (x5 : S1x64.Idx → Elt F .f32) (x6 : S64x40.Idx → Elt F .bf16) (x7 : S1x40.Idx → Elt F .f32) (x8 : S1000x10000.Idx → Elt F .fp8e4m3) (s : St F) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare s.hs
        ∗ owns (c : Thread nD τ) a11 fullShare s.ss
        ∗ owns (c : Thread nD τ) a12 fullShare s.cs
        ∗ owns (c : Thread nD τ) a13 fullShare s.sc
        ∗ owns (c : Thread nD τ) a14 fullShare s.sf
        ∗ owns (c : Thread nD τ) a15 fullShare s.acs
        ∗ owns (c : Thread nD τ) a16 fullShare s.acm
        ∗ (iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare ((s.quant0 x2).layer0 i x3 x4 x8).hs
        ∗ owns (c : Thread nD τ) a11 fullShare ((s.quant0 x2).layer0 i x3 x4 x8).ss
        ∗ owns (c : Thread nD τ) a12 fullShare ((s.quant0 x2).layer0 i x3 x4 x8).cs
        ∗ owns (c : Thread nD τ) a13 fullShare ((s.quant0 x2).layer0 i x3 x4 x8).sc
        ∗ owns (c : Thread nD τ) a14 fullShare ((s.quant0 x2).layer0 i x3 x4 x8).sf
        ∗ owns (c : Thread nD τ) a15 fullShare ((s.quant0 x2).layer0 i x3 x4 x8).acs
        ∗ owns (c : Thread nD τ) a16 fullShare ((s.quant0 x2).layer0 i x3 x4 x8).acm) -∗ K ⟨⟩))
      ⊢ wp frame (wpE (defs₀ (F := F)) Variants.none c none) Set.univ
          (cc1__tail_body i a2 ha2 a3 ha3 a4 ha4 a5 ha5 a6 ha6 a7 ha7 a8 ha8 a9 ha9 a10 ha10 a11 ha11 a12 ha12 a13 ha13 a14 ha14 a15 ha15 a16 ha16) K := by
  simp only [cc1__tail_body_eq_skeleton]; unfold cc1__tail_body_skel; rw [k1_part1_eq_skeleton, k1_part2_eq_skeleton]; unfold k1_part1_skel k1_part2_skel
  unfold owns
  iintro ⟨⟨%fa2, %ea2, Ha2⟩, ⟨%fa3, %ea3, Ha3⟩, ⟨%fa4, %ea4, Ha4⟩, ⟨%fa5, %ea5, Ha5⟩, ⟨%fa6, %ea6, Ha6⟩, ⟨%fa7, %ea7, Ha7⟩, ⟨%fa8, %ea8, Ha8⟩, ⟨%da9, %fa9, -, Ha9⟩, ⟨%fa10, %ea10, Ha10⟩, ⟨%fa11, %ea11, Ha11⟩, ⟨%fa12, %ea12, Ha12⟩, ⟨%fa13, %ea13, Ha13⟩, ⟨%fa14, %ea14, Ha14⟩, ⟨%fa15, %ea15, Ha15⟩, ⟨%fa16, %ea16, Ha16⟩, Hk⟩
  subst ea2
  subst ea3
  subst ea4
  subst ea5
  subst ea6
  subst ea7
  subst ea8
  obtain ⟨hs, ss, cs, sc, sf, acs, acm⟩ := s
  dsimp only at ea10 ea11 ea12 ea13 ea14 ea15 ea16
  subst ea10 ea11 ea12 ea13 ea14 ea15 ea16
  sl_exec (disch := first | sl_exact hq0 | sl_exact hq1 | sl_exact hq2 | sl_exact hl0 | sl_exact hl1 | sl_exact hl2)
  sl_step
  iapply Hk
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists fa6; isplitr; swap; · iexact Ha6
    ipureintro; rfl
  isplitl [Ha7]
  · iexists fa7; isplitr; swap; · iexact Ha7
    ipureintro; rfl
  isplitl [Ha8]
  · iexists fa8; isplitr; swap; · iexact Ha8
    ipureintro; rfl
  isplitl [Ha9]
  · iexists _, _; isplitr; swap; · iexact Ha9
    ipureintro; rfl
  isplitl [Ha10]
  · iexists _; isplitr; swap; · iexact Ha10
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha11]
  · iexists _; isplitr; swap; · iexact Ha11
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha12]
  · iexists _; isplitr; swap; · iexact Ha12
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha13]
  · iexists _; isplitr; swap; · iexact Ha13
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha14]
  · iexists _; isplitr; swap; · iexact Ha14
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha15]
  · iexists _; isplitr; swap; · iexact Ha15
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  iexists _; isplitr; swap; · iexact Ha16
  ipureintro
  sl_unfold_run_names
  repeat rw [View.read_writes_full]
  repeat rw [read_writes_unit]
  repeat rw [View.readCov_full]
  repeat rw [readCov_same]
  repeat rw [View.readAt_full]
  first
    | simp only [St.layer1, St.quant1_ss64, St.quant1_sc64, St.quant1_cs64]; simp only [St.acm40, St.acs40, St.quant1, View.writes_nil]; rfl
    | rfl
    | simp only [St.final, St.layer1, St.quant1_ss64, St.quant1_sc64, St.quant1_cs64, St.quant2_ss40, St.quant2_sc40, St.quant2_cs40]; rfl

set_option maxHeartbeats 1000000 in
/-- The second body at a later row block of layer 1 of 3. -/
theorem run1_0_later (c : Dev nD) (i : grid1.Coords)
    (hq0 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1))
    (hq1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (hq2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (hl0 : k1_cond4 i = 1#1)
    (hl1 : ¬ k1_cond5 i = 1#1)
    (hl2 : ¬ k1_cond6 i = 1#1)
    (a2 : Memref sig .tc .vmem S10000x128 .bf16) (ha2 : a2.IsWhole)
    (a3 : Memref sig .tc .vmem S1x128 .f32) (ha3 : a3.IsWhole)
    (a4 : Memref sig .tc .vmem S128x64 .bf16) (ha4 : a4.IsWhole)
    (a5 : Memref sig .tc .vmem S1x64 .f32) (ha5 : a5.IsWhole)
    (a6 : Memref sig .tc .vmem S64x40 .bf16) (ha6 : a6.IsWhole)
    (a7 : Memref sig .tc .vmem S1x40 .f32) (ha7 : a7.IsWhole)
    (a8 : Memref sig .tc .vmem S1000x10000 .fp8e4m3) (ha8 : a8.IsWhole)
    (a9 : Memref sig .tc .vmem S1000x40 .f32) (ha9 : a9.IsWhole)
    (a10 : Memref sig .tc .vmem S10x1000x128 .bf16) (ha10 : a10.IsWhole)
    (a11 : Memref sig .tc .vmem S10000x128 .fp8e4m3) (ha11 : a11.IsWhole)
    (a12 : Memref sig .tc .vmem S1x128 .f32) (ha12 : a12.IsWhole)
    (a13 : Memref sig .tc .vmem S1x128 .f32) (ha13 : a13.IsWhole)
    (a14 : Memref sig .tc .vmem S10x1000x64 .f32) (ha14 : a14.IsWhole)
    (a15 : Memref sig .tc .vmem S1x64 .f32) (ha15 : a15.IsWhole)
    (a16 : Memref sig .tc .vmem S1x64 .f32) (ha16 : a16.IsWhole)
    (x2 : S10000x128.Idx → Elt F .bf16) (x3 : S1x128.Idx → Elt F .f32) (x4 : S128x64.Idx → Elt F .bf16) (x5 : S1x64.Idx → Elt F .f32) (x6 : S64x40.Idx → Elt F .bf16) (x7 : S1x40.Idx → Elt F .f32) (x8 : S1000x10000.Idx → Elt F .fp8e4m3) (s : St F) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare s.hs
        ∗ owns (c : Thread nD τ) a11 fullShare s.ss
        ∗ owns (c : Thread nD τ) a12 fullShare s.cs
        ∗ owns (c : Thread nD τ) a13 fullShare s.sc
        ∗ owns (c : Thread nD τ) a14 fullShare s.sf
        ∗ owns (c : Thread nD τ) a15 fullShare s.acs
        ∗ owns (c : Thread nD τ) a16 fullShare s.acm
        ∗ (iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare (s.layer0 i x3 x4 x8).hs
        ∗ owns (c : Thread nD τ) a11 fullShare (s.layer0 i x3 x4 x8).ss
        ∗ owns (c : Thread nD τ) a12 fullShare (s.layer0 i x3 x4 x8).cs
        ∗ owns (c : Thread nD τ) a13 fullShare (s.layer0 i x3 x4 x8).sc
        ∗ owns (c : Thread nD τ) a14 fullShare (s.layer0 i x3 x4 x8).sf
        ∗ owns (c : Thread nD τ) a15 fullShare (s.layer0 i x3 x4 x8).acs
        ∗ owns (c : Thread nD τ) a16 fullShare (s.layer0 i x3 x4 x8).acm) -∗ K ⟨⟩))
      ⊢ wp frame (wpE (defs₀ (F := F)) Variants.none c none) Set.univ
          (cc1__tail_body i a2 ha2 a3 ha3 a4 ha4 a5 ha5 a6 ha6 a7 ha7 a8 ha8 a9 ha9 a10 ha10 a11 ha11 a12 ha12 a13 ha13 a14 ha14 a15 ha15 a16 ha16) K := by
  simp only [cc1__tail_body_eq_skeleton]; unfold cc1__tail_body_skel; rw [k1_part1_eq_skeleton, k1_part2_eq_skeleton]; unfold k1_part1_skel k1_part2_skel
  unfold owns
  iintro ⟨⟨%fa2, %ea2, Ha2⟩, ⟨%fa3, %ea3, Ha3⟩, ⟨%fa4, %ea4, Ha4⟩, ⟨%fa5, %ea5, Ha5⟩, ⟨%fa6, %ea6, Ha6⟩, ⟨%fa7, %ea7, Ha7⟩, ⟨%fa8, %ea8, Ha8⟩, ⟨%da9, %fa9, -, Ha9⟩, ⟨%fa10, %ea10, Ha10⟩, ⟨%fa11, %ea11, Ha11⟩, ⟨%fa12, %ea12, Ha12⟩, ⟨%fa13, %ea13, Ha13⟩, ⟨%fa14, %ea14, Ha14⟩, ⟨%fa15, %ea15, Ha15⟩, ⟨%fa16, %ea16, Ha16⟩, Hk⟩
  subst ea2
  subst ea3
  subst ea4
  subst ea5
  subst ea6
  subst ea7
  subst ea8
  obtain ⟨hs, ss, cs, sc, sf, acs, acm⟩ := s
  dsimp only at ea10 ea11 ea12 ea13 ea14 ea15 ea16
  subst ea10 ea11 ea12 ea13 ea14 ea15 ea16
  sl_exec (disch := first | sl_exact hq0 | sl_exact hq1 | sl_exact hq2 | sl_exact hl0 | sl_exact hl1 | sl_exact hl2)
  sl_step
  iapply Hk
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists fa6; isplitr; swap; · iexact Ha6
    ipureintro; rfl
  isplitl [Ha7]
  · iexists fa7; isplitr; swap; · iexact Ha7
    ipureintro; rfl
  isplitl [Ha8]
  · iexists fa8; isplitr; swap; · iexact Ha8
    ipureintro; rfl
  isplitl [Ha9]
  · iexists _, _; isplitr; swap; · iexact Ha9
    ipureintro; rfl
  isplitl [Ha10]
  · iexists _; isplitr; swap; · iexact Ha10
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha11]
  · iexists _; isplitr; swap; · iexact Ha11
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha12]
  · iexists _; isplitr; swap; · iexact Ha12
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha13]
  · iexists _; isplitr; swap; · iexact Ha13
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha14]
  · iexists _; isplitr; swap; · iexact Ha14
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha15]
  · iexists _; isplitr; swap; · iexact Ha15
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  iexists _; isplitr; swap; · iexact Ha16
  ipureintro
  sl_unfold_run_names
  repeat rw [View.read_writes_full]
  repeat rw [read_writes_unit]
  repeat rw [View.readCov_full]
  repeat rw [readCov_same]
  repeat rw [View.readAt_full]
  first
    | simp only [St.layer1, St.quant1_ss64, St.quant1_sc64, St.quant1_cs64]; simp only [St.acm40, St.acs40, St.quant1, View.writes_nil]; rfl
    | rfl
    | simp only [St.final, St.layer1, St.quant1_ss64, St.quant1_sc64, St.quant1_cs64, St.quant2_ss40, St.quant2_sc40, St.quant2_cs40]; rfl

set_option maxHeartbeats 1000000 in
/-- The second body at the first row block of layer 2 of 3. -/
theorem run1_1_first (c : Dev nD) (i : grid1.Coords)
    (hq0 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1))
    (hq1 : Scalar.cmpi .ne (Scalar.extui (Scalar.andi (Scalar.cmpi .eq (BitVec.ofNat 32 (i 0).val) 1#32) (Scalar.cmpi .eq (BitVec.ofNat 32 (i 1).val) 0#32)) : BitVec 32) 0#32 = 1#1)
    (hq2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (hl0 : ¬ k1_cond4 i = 1#1)
    (hl1 : k1_cond5 i = 1#1)
    (hl2 : ¬ k1_cond6 i = 1#1)
    (a2 : Memref sig .tc .vmem S10000x128 .bf16) (ha2 : a2.IsWhole)
    (a3 : Memref sig .tc .vmem S1x128 .f32) (ha3 : a3.IsWhole)
    (a4 : Memref sig .tc .vmem S128x64 .bf16) (ha4 : a4.IsWhole)
    (a5 : Memref sig .tc .vmem S1x64 .f32) (ha5 : a5.IsWhole)
    (a6 : Memref sig .tc .vmem S64x40 .bf16) (ha6 : a6.IsWhole)
    (a7 : Memref sig .tc .vmem S1x40 .f32) (ha7 : a7.IsWhole)
    (a8 : Memref sig .tc .vmem S1000x10000 .fp8e4m3) (ha8 : a8.IsWhole)
    (a9 : Memref sig .tc .vmem S1000x40 .f32) (ha9 : a9.IsWhole)
    (a10 : Memref sig .tc .vmem S10x1000x128 .bf16) (ha10 : a10.IsWhole)
    (a11 : Memref sig .tc .vmem S10000x128 .fp8e4m3) (ha11 : a11.IsWhole)
    (a12 : Memref sig .tc .vmem S1x128 .f32) (ha12 : a12.IsWhole)
    (a13 : Memref sig .tc .vmem S1x128 .f32) (ha13 : a13.IsWhole)
    (a14 : Memref sig .tc .vmem S10x1000x64 .f32) (ha14 : a14.IsWhole)
    (a15 : Memref sig .tc .vmem S1x64 .f32) (ha15 : a15.IsWhole)
    (a16 : Memref sig .tc .vmem S1x64 .f32) (ha16 : a16.IsWhole)
    (x2 : S10000x128.Idx → Elt F .bf16) (x3 : S1x128.Idx → Elt F .f32) (x4 : S128x64.Idx → Elt F .bf16) (x5 : S1x64.Idx → Elt F .f32) (x6 : S64x40.Idx → Elt F .bf16) (x7 : S1x40.Idx → Elt F .f32) (x8 : S1000x10000.Idx → Elt F .fp8e4m3) (s : St F) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare s.hs
        ∗ owns (c : Thread nD τ) a11 fullShare s.ss
        ∗ owns (c : Thread nD τ) a12 fullShare s.cs
        ∗ owns (c : Thread nD τ) a13 fullShare s.sc
        ∗ owns (c : Thread nD τ) a14 fullShare s.sf
        ∗ owns (c : Thread nD τ) a15 fullShare s.acs
        ∗ owns (c : Thread nD τ) a16 fullShare s.acm
        ∗ (iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare (s.quant1.layer1 i x5 x6 x8).hs
        ∗ owns (c : Thread nD τ) a11 fullShare (s.quant1.layer1 i x5 x6 x8).ss
        ∗ owns (c : Thread nD τ) a12 fullShare (s.quant1.layer1 i x5 x6 x8).cs
        ∗ owns (c : Thread nD τ) a13 fullShare (s.quant1.layer1 i x5 x6 x8).sc
        ∗ owns (c : Thread nD τ) a14 fullShare (s.quant1.layer1 i x5 x6 x8).sf
        ∗ owns (c : Thread nD τ) a15 fullShare (s.quant1.layer1 i x5 x6 x8).acs
        ∗ owns (c : Thread nD τ) a16 fullShare (s.quant1.layer1 i x5 x6 x8).acm) -∗ K ⟨⟩))
      ⊢ wp frame (wpE (defs₀ (F := F)) Variants.none c none) Set.univ
          (cc1__tail_body i a2 ha2 a3 ha3 a4 ha4 a5 ha5 a6 ha6 a7 ha7 a8 ha8 a9 ha9 a10 ha10 a11 ha11 a12 ha12 a13 ha13 a14 ha14 a15 ha15 a16 ha16) K := by
  simp only [cc1__tail_body_eq_skeleton]; unfold cc1__tail_body_skel; rw [k1_part1_eq_skeleton, k1_part2_eq_skeleton]; unfold k1_part1_skel k1_part2_skel
  unfold owns
  iintro ⟨⟨%fa2, %ea2, Ha2⟩, ⟨%fa3, %ea3, Ha3⟩, ⟨%fa4, %ea4, Ha4⟩, ⟨%fa5, %ea5, Ha5⟩, ⟨%fa6, %ea6, Ha6⟩, ⟨%fa7, %ea7, Ha7⟩, ⟨%fa8, %ea8, Ha8⟩, ⟨%da9, %fa9, -, Ha9⟩, ⟨%fa10, %ea10, Ha10⟩, ⟨%fa11, %ea11, Ha11⟩, ⟨%fa12, %ea12, Ha12⟩, ⟨%fa13, %ea13, Ha13⟩, ⟨%fa14, %ea14, Ha14⟩, ⟨%fa15, %ea15, Ha15⟩, ⟨%fa16, %ea16, Ha16⟩, Hk⟩
  subst ea2
  subst ea3
  subst ea4
  subst ea5
  subst ea6
  subst ea7
  subst ea8
  obtain ⟨hs, ss, cs, sc, sf, acs, acm⟩ := s
  dsimp only at ea10 ea11 ea12 ea13 ea14 ea15 ea16
  subst ea10 ea11 ea12 ea13 ea14 ea15 ea16
  sl_exec (disch := first | sl_exact hq0 | sl_exact hq1 | sl_exact hq2 | sl_exact hl0 | sl_exact hl1 | sl_exact hl2)
  sl_step
  iapply Hk
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists fa6; isplitr; swap; · iexact Ha6
    ipureintro; rfl
  isplitl [Ha7]
  · iexists fa7; isplitr; swap; · iexact Ha7
    ipureintro; rfl
  isplitl [Ha8]
  · iexists fa8; isplitr; swap; · iexact Ha8
    ipureintro; rfl
  isplitl [Ha9]
  · iexists _, _; isplitr; swap; · iexact Ha9
    ipureintro; rfl
  isplitl [Ha10]
  · iexists _; isplitr; swap; · iexact Ha10
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha11]
  · iexists _; isplitr; swap; · iexact Ha11
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha12]
  · iexists _; isplitr; swap; · iexact Ha12
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha13]
  · iexists _; isplitr; swap; · iexact Ha13
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha14]
  · iexists _; isplitr; swap; · iexact Ha14
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha15]
  · iexists _; isplitr; swap; · iexact Ha15
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  iexists _; isplitr; swap; · iexact Ha16
  ipureintro
  sl_unfold_run_names
  repeat rw [View.read_writes_full]
  repeat rw [read_writes_unit]
  repeat rw [View.readCov_full]
  repeat rw [readCov_same]
  repeat rw [View.readAt_full]
  first
    | simp only [St.layer1, St.quant1_ss64, St.quant1_sc64, St.quant1_cs64]; simp only [St.acm40, St.acs40, St.quant1, View.writes_nil]; rfl
    | rfl
    | simp only [St.final, St.layer1, St.quant1_ss64, St.quant1_sc64, St.quant1_cs64, St.quant2_ss40, St.quant2_sc40, St.quant2_cs40]; rfl

set_option maxHeartbeats 1000000 in
/-- The second body at a later row block of layer 2 of 3. -/
theorem run1_1_later (c : Dev nD) (i : grid1.Coords)
    (hq0 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1))
    (hq1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (hq2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (hl0 : ¬ k1_cond4 i = 1#1)
    (hl1 : k1_cond5 i = 1#1)
    (hl2 : ¬ k1_cond6 i = 1#1)
    (a2 : Memref sig .tc .vmem S10000x128 .bf16) (ha2 : a2.IsWhole)
    (a3 : Memref sig .tc .vmem S1x128 .f32) (ha3 : a3.IsWhole)
    (a4 : Memref sig .tc .vmem S128x64 .bf16) (ha4 : a4.IsWhole)
    (a5 : Memref sig .tc .vmem S1x64 .f32) (ha5 : a5.IsWhole)
    (a6 : Memref sig .tc .vmem S64x40 .bf16) (ha6 : a6.IsWhole)
    (a7 : Memref sig .tc .vmem S1x40 .f32) (ha7 : a7.IsWhole)
    (a8 : Memref sig .tc .vmem S1000x10000 .fp8e4m3) (ha8 : a8.IsWhole)
    (a9 : Memref sig .tc .vmem S1000x40 .f32) (ha9 : a9.IsWhole)
    (a10 : Memref sig .tc .vmem S10x1000x128 .bf16) (ha10 : a10.IsWhole)
    (a11 : Memref sig .tc .vmem S10000x128 .fp8e4m3) (ha11 : a11.IsWhole)
    (a12 : Memref sig .tc .vmem S1x128 .f32) (ha12 : a12.IsWhole)
    (a13 : Memref sig .tc .vmem S1x128 .f32) (ha13 : a13.IsWhole)
    (a14 : Memref sig .tc .vmem S10x1000x64 .f32) (ha14 : a14.IsWhole)
    (a15 : Memref sig .tc .vmem S1x64 .f32) (ha15 : a15.IsWhole)
    (a16 : Memref sig .tc .vmem S1x64 .f32) (ha16 : a16.IsWhole)
    (x2 : S10000x128.Idx → Elt F .bf16) (x3 : S1x128.Idx → Elt F .f32) (x4 : S128x64.Idx → Elt F .bf16) (x5 : S1x64.Idx → Elt F .f32) (x6 : S64x40.Idx → Elt F .bf16) (x7 : S1x40.Idx → Elt F .f32) (x8 : S1000x10000.Idx → Elt F .fp8e4m3) (s : St F) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare s.hs
        ∗ owns (c : Thread nD τ) a11 fullShare s.ss
        ∗ owns (c : Thread nD τ) a12 fullShare s.cs
        ∗ owns (c : Thread nD τ) a13 fullShare s.sc
        ∗ owns (c : Thread nD τ) a14 fullShare s.sf
        ∗ owns (c : Thread nD τ) a15 fullShare s.acs
        ∗ owns (c : Thread nD τ) a16 fullShare s.acm
        ∗ (iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare (s.layer1 i x5 x6 x8).hs
        ∗ owns (c : Thread nD τ) a11 fullShare (s.layer1 i x5 x6 x8).ss
        ∗ owns (c : Thread nD τ) a12 fullShare (s.layer1 i x5 x6 x8).cs
        ∗ owns (c : Thread nD τ) a13 fullShare (s.layer1 i x5 x6 x8).sc
        ∗ owns (c : Thread nD τ) a14 fullShare (s.layer1 i x5 x6 x8).sf
        ∗ owns (c : Thread nD τ) a15 fullShare (s.layer1 i x5 x6 x8).acs
        ∗ owns (c : Thread nD τ) a16 fullShare (s.layer1 i x5 x6 x8).acm) -∗ K ⟨⟩))
      ⊢ wp frame (wpE (defs₀ (F := F)) Variants.none c none) Set.univ
          (cc1__tail_body i a2 ha2 a3 ha3 a4 ha4 a5 ha5 a6 ha6 a7 ha7 a8 ha8 a9 ha9 a10 ha10 a11 ha11 a12 ha12 a13 ha13 a14 ha14 a15 ha15 a16 ha16) K := by
  simp only [cc1__tail_body_eq_skeleton]; unfold cc1__tail_body_skel; rw [k1_part1_eq_skeleton, k1_part2_eq_skeleton]; unfold k1_part1_skel k1_part2_skel
  unfold owns
  iintro ⟨⟨%fa2, %ea2, Ha2⟩, ⟨%fa3, %ea3, Ha3⟩, ⟨%fa4, %ea4, Ha4⟩, ⟨%fa5, %ea5, Ha5⟩, ⟨%fa6, %ea6, Ha6⟩, ⟨%fa7, %ea7, Ha7⟩, ⟨%fa8, %ea8, Ha8⟩, ⟨%da9, %fa9, -, Ha9⟩, ⟨%fa10, %ea10, Ha10⟩, ⟨%fa11, %ea11, Ha11⟩, ⟨%fa12, %ea12, Ha12⟩, ⟨%fa13, %ea13, Ha13⟩, ⟨%fa14, %ea14, Ha14⟩, ⟨%fa15, %ea15, Ha15⟩, ⟨%fa16, %ea16, Ha16⟩, Hk⟩
  subst ea2
  subst ea3
  subst ea4
  subst ea5
  subst ea6
  subst ea7
  subst ea8
  obtain ⟨hs, ss, cs, sc, sf, acs, acm⟩ := s
  dsimp only at ea10 ea11 ea12 ea13 ea14 ea15 ea16
  subst ea10 ea11 ea12 ea13 ea14 ea15 ea16
  sl_exec (disch := first | sl_exact hq0 | sl_exact hq1 | sl_exact hq2 | sl_exact hl0 | sl_exact hl1 | sl_exact hl2)
  sl_step
  iapply Hk
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists fa6; isplitr; swap; · iexact Ha6
    ipureintro; rfl
  isplitl [Ha7]
  · iexists fa7; isplitr; swap; · iexact Ha7
    ipureintro; rfl
  isplitl [Ha8]
  · iexists fa8; isplitr; swap; · iexact Ha8
    ipureintro; rfl
  isplitl [Ha9]
  · iexists _, _; isplitr; swap; · iexact Ha9
    ipureintro; rfl
  isplitl [Ha10]
  · iexists _; isplitr; swap; · iexact Ha10
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha11]
  · iexists _; isplitr; swap; · iexact Ha11
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha12]
  · iexists _; isplitr; swap; · iexact Ha12
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha13]
  · iexists _; isplitr; swap; · iexact Ha13
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha14]
  · iexists _; isplitr; swap; · iexact Ha14
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha15]
  · iexists _; isplitr; swap; · iexact Ha15
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  iexists _; isplitr; swap; · iexact Ha16
  ipureintro
  sl_unfold_run_names
  repeat rw [View.read_writes_full]
  repeat rw [read_writes_unit]
  repeat rw [View.readCov_full]
  repeat rw [readCov_same]
  repeat rw [View.readAt_full]
  first
    | simp only [St.layer1, St.quant1_ss64, St.quant1_sc64, St.quant1_cs64]; simp only [St.acm40, St.acs40, St.quant1, View.writes_nil]; rfl
    | rfl
    | simp only [St.final, St.layer1, St.quant1_ss64, St.quant1_sc64, St.quant1_cs64, St.quant2_ss40, St.quant2_sc40, St.quant2_cs40]; rfl

set_option maxHeartbeats 1000000 in
/-- The second body at the first row block of layer 3 of 3. -/
theorem run1_2_first (c : Dev nD) (i : grid1.Coords)
    (hq0 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1))
    (hq1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (hq2 : Scalar.cmpi .ne (Scalar.extui (Scalar.andi (Scalar.cmpi .eq (BitVec.ofNat 32 (i 0).val) 2#32) (Scalar.cmpi .eq (BitVec.ofNat 32 (i 1).val) 0#32)) : BitVec 32) 0#32 = 1#1)
    (hl0 : ¬ k1_cond4 i = 1#1)
    (hl1 : ¬ k1_cond5 i = 1#1)
    (hl2 : k1_cond6 i = 1#1)
    (a2 : Memref sig .tc .vmem S10000x128 .bf16) (ha2 : a2.IsWhole)
    (a3 : Memref sig .tc .vmem S1x128 .f32) (ha3 : a3.IsWhole)
    (a4 : Memref sig .tc .vmem S128x64 .bf16) (ha4 : a4.IsWhole)
    (a5 : Memref sig .tc .vmem S1x64 .f32) (ha5 : a5.IsWhole)
    (a6 : Memref sig .tc .vmem S64x40 .bf16) (ha6 : a6.IsWhole)
    (a7 : Memref sig .tc .vmem S1x40 .f32) (ha7 : a7.IsWhole)
    (a8 : Memref sig .tc .vmem S1000x10000 .fp8e4m3) (ha8 : a8.IsWhole)
    (a9 : Memref sig .tc .vmem S1000x40 .f32) (ha9 : a9.IsWhole)
    (a10 : Memref sig .tc .vmem S10x1000x128 .bf16) (ha10 : a10.IsWhole)
    (a11 : Memref sig .tc .vmem S10000x128 .fp8e4m3) (ha11 : a11.IsWhole)
    (a12 : Memref sig .tc .vmem S1x128 .f32) (ha12 : a12.IsWhole)
    (a13 : Memref sig .tc .vmem S1x128 .f32) (ha13 : a13.IsWhole)
    (a14 : Memref sig .tc .vmem S10x1000x64 .f32) (ha14 : a14.IsWhole)
    (a15 : Memref sig .tc .vmem S1x64 .f32) (ha15 : a15.IsWhole)
    (a16 : Memref sig .tc .vmem S1x64 .f32) (ha16 : a16.IsWhole)
    (x2 : S10000x128.Idx → Elt F .bf16) (x3 : S1x128.Idx → Elt F .f32) (x4 : S128x64.Idx → Elt F .bf16) (x5 : S1x64.Idx → Elt F .f32) (x6 : S64x40.Idx → Elt F .bf16) (x7 : S1x40.Idx → Elt F .f32) (x8 : S1000x10000.Idx → Elt F .fp8e4m3) (s : St F) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare s.hs
        ∗ owns (c : Thread nD τ) a11 fullShare s.ss
        ∗ owns (c : Thread nD τ) a12 fullShare s.cs
        ∗ owns (c : Thread nD τ) a13 fullShare s.sc
        ∗ owns (c : Thread nD τ) a14 fullShare s.sf
        ∗ owns (c : Thread nD τ) a15 fullShare s.acs
        ∗ owns (c : Thread nD τ) a16 fullShare s.acm
        ∗ (iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare (s.quant2.final x7 x8)
        ∗ owns (c : Thread nD τ) a10 fullShare s.quant2.hs
        ∗ owns (c : Thread nD τ) a11 fullShare s.quant2.ss
        ∗ owns (c : Thread nD τ) a12 fullShare s.quant2.cs
        ∗ owns (c : Thread nD τ) a13 fullShare s.quant2.sc
        ∗ owns (c : Thread nD τ) a14 fullShare s.quant2.sf
        ∗ owns (c : Thread nD τ) a15 fullShare s.quant2.acs
        ∗ owns (c : Thread nD τ) a16 fullShare s.quant2.acm) -∗ K ⟨⟩))
      ⊢ wp frame (wpE (defs₀ (F := F)) Variants.none c none) Set.univ
          (cc1__tail_body i a2 ha2 a3 ha3 a4 ha4 a5 ha5 a6 ha6 a7 ha7 a8 ha8 a9 ha9 a10 ha10 a11 ha11 a12 ha12 a13 ha13 a14 ha14 a15 ha15 a16 ha16) K := by
  simp only [cc1__tail_body_eq_skeleton]; unfold cc1__tail_body_skel; rw [k1_part1_eq_skeleton, k1_part2_eq_skeleton]; unfold k1_part1_skel k1_part2_skel
  unfold owns
  iintro ⟨⟨%fa2, %ea2, Ha2⟩, ⟨%fa3, %ea3, Ha3⟩, ⟨%fa4, %ea4, Ha4⟩, ⟨%fa5, %ea5, Ha5⟩, ⟨%fa6, %ea6, Ha6⟩, ⟨%fa7, %ea7, Ha7⟩, ⟨%fa8, %ea8, Ha8⟩, ⟨%da9, %fa9, -, Ha9⟩, ⟨%fa10, %ea10, Ha10⟩, ⟨%fa11, %ea11, Ha11⟩, ⟨%fa12, %ea12, Ha12⟩, ⟨%fa13, %ea13, Ha13⟩, ⟨%fa14, %ea14, Ha14⟩, ⟨%fa15, %ea15, Ha15⟩, ⟨%fa16, %ea16, Ha16⟩, Hk⟩
  subst ea2
  subst ea3
  subst ea4
  subst ea5
  subst ea6
  subst ea7
  subst ea8
  obtain ⟨hs, ss, cs, sc, sf, acs, acm⟩ := s
  dsimp only at ea10 ea11 ea12 ea13 ea14 ea15 ea16
  subst ea10 ea11 ea12 ea13 ea14 ea15 ea16
  sl_exec (disch := first | sl_exact hq0 | sl_exact hq1 | sl_exact hq2 | sl_exact hl0 | sl_exact hl1 | sl_exact hl2)
  sl_step
  iapply Hk
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists fa6; isplitr; swap; · iexact Ha6
    ipureintro; rfl
  isplitl [Ha7]
  · iexists fa7; isplitr; swap; · iexact Ha7
    ipureintro; rfl
  isplitl [Ha8]
  · iexists fa8; isplitr; swap; · iexact Ha8
    ipureintro; rfl
  isplitl [Ha9]
  · iexists _; isplitr; swap; · iexact Ha9
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha10]
  · iexists _; isplitr; swap; · iexact Ha10
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha11]
  · iexists _; isplitr; swap; · iexact Ha11
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha12]
  · iexists _; isplitr; swap; · iexact Ha12
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha13]
  · iexists _; isplitr; swap; · iexact Ha13
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha14]
  · iexists _; isplitr; swap; · iexact Ha14
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha15]
  · iexists _; isplitr; swap; · iexact Ha15
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  iexists _; isplitr; swap; · iexact Ha16
  ipureintro
  sl_unfold_run_names
  repeat rw [View.read_writes_full]
  repeat rw [read_writes_unit]
  repeat rw [View.readCov_full]
  repeat rw [readCov_same]
  repeat rw [View.readAt_full]
  first
    | simp only [St.layer1, St.quant1_ss64, St.quant1_sc64, St.quant1_cs64]; simp only [St.acm40, St.acs40, St.quant1, View.writes_nil]; rfl
    | rfl
    | simp only [St.final, St.layer1, St.quant1_ss64, St.quant1_sc64, St.quant1_cs64, St.quant2_ss40, St.quant2_sc40, St.quant2_cs40]; rfl

set_option maxHeartbeats 1000000 in
/-- The second body at a later row block of layer 3 of 3. -/
theorem run1_2_later (c : Dev nD) (i : grid1.Coords)
    (hq0 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1))
    (hq1 : ¬ (Scalar.cmpi .ne (Scalar.extui (Scalar.andi (Scalar.cmpi .eq (BitVec.ofNat 32 (i 0).val) 1#32) (Scalar.cmpi .eq (BitVec.ofNat 32 (i 1).val) 0#32)) : BitVec 32) 0#32 = 1#1))
    (hq2 : ¬ (Scalar.cmpi .ne (Scalar.extui (Scalar.andi (Scalar.cmpi .eq (BitVec.ofNat 32 (i 0).val) 2#32) (Scalar.cmpi .eq (BitVec.ofNat 32 (i 1).val) 0#32)) : BitVec 32) 0#32 = 1#1))
    (hl0 : ¬ k1_cond4 i = 1#1)
    (hl1 : ¬ k1_cond5 i = 1#1)
    (hl2 : k1_cond6 i = 1#1)
    (a2 : Memref sig .tc .vmem S10000x128 .bf16) (ha2 : a2.IsWhole)
    (a3 : Memref sig .tc .vmem S1x128 .f32) (ha3 : a3.IsWhole)
    (a4 : Memref sig .tc .vmem S128x64 .bf16) (ha4 : a4.IsWhole)
    (a5 : Memref sig .tc .vmem S1x64 .f32) (ha5 : a5.IsWhole)
    (a6 : Memref sig .tc .vmem S64x40 .bf16) (ha6 : a6.IsWhole)
    (a7 : Memref sig .tc .vmem S1x40 .f32) (ha7 : a7.IsWhole)
    (a8 : Memref sig .tc .vmem S1000x10000 .fp8e4m3) (ha8 : a8.IsWhole)
    (a9 : Memref sig .tc .vmem S1000x40 .f32) (ha9 : a9.IsWhole)
    (a10 : Memref sig .tc .vmem S10x1000x128 .bf16) (ha10 : a10.IsWhole)
    (a11 : Memref sig .tc .vmem S10000x128 .fp8e4m3) (ha11 : a11.IsWhole)
    (a12 : Memref sig .tc .vmem S1x128 .f32) (ha12 : a12.IsWhole)
    (a13 : Memref sig .tc .vmem S1x128 .f32) (ha13 : a13.IsWhole)
    (a14 : Memref sig .tc .vmem S10x1000x64 .f32) (ha14 : a14.IsWhole)
    (a15 : Memref sig .tc .vmem S1x64 .f32) (ha15 : a15.IsWhole)
    (a16 : Memref sig .tc .vmem S1x64 .f32) (ha16 : a16.IsWhole)
    (x2 : S10000x128.Idx → Elt F .bf16) (x3 : S1x128.Idx → Elt F .f32) (x4 : S128x64.Idx → Elt F .bf16) (x5 : S1x64.Idx → Elt F .f32) (x6 : S64x40.Idx → Elt F .bf16) (x7 : S1x40.Idx → Elt F .f32) (x8 : S1000x10000.Idx → Elt F .fp8e4m3) (s : St F) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ owns (c : Thread nD τ) a10 fullShare s.hs
        ∗ owns (c : Thread nD τ) a11 fullShare s.ss
        ∗ owns (c : Thread nD τ) a12 fullShare s.cs
        ∗ owns (c : Thread nD τ) a13 fullShare s.sc
        ∗ owns (c : Thread nD τ) a14 fullShare s.sf
        ∗ owns (c : Thread nD τ) a15 fullShare s.acs
        ∗ owns (c : Thread nD τ) a16 fullShare s.acm
        ∗ (iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare (s.final x7 x8)
        ∗ owns (c : Thread nD τ) a10 fullShare s.hs
        ∗ owns (c : Thread nD τ) a11 fullShare s.ss
        ∗ owns (c : Thread nD τ) a12 fullShare s.cs
        ∗ owns (c : Thread nD τ) a13 fullShare s.sc
        ∗ owns (c : Thread nD τ) a14 fullShare s.sf
        ∗ owns (c : Thread nD τ) a15 fullShare s.acs
        ∗ owns (c : Thread nD τ) a16 fullShare s.acm) -∗ K ⟨⟩))
      ⊢ wp frame (wpE (defs₀ (F := F)) Variants.none c none) Set.univ
          (cc1__tail_body i a2 ha2 a3 ha3 a4 ha4 a5 ha5 a6 ha6 a7 ha7 a8 ha8 a9 ha9 a10 ha10 a11 ha11 a12 ha12 a13 ha13 a14 ha14 a15 ha15 a16 ha16) K := by
  simp only [cc1__tail_body_eq_skeleton]; unfold cc1__tail_body_skel; rw [k1_part1_eq_skeleton, k1_part2_eq_skeleton]; unfold k1_part1_skel k1_part2_skel
  unfold owns
  iintro ⟨⟨%fa2, %ea2, Ha2⟩, ⟨%fa3, %ea3, Ha3⟩, ⟨%fa4, %ea4, Ha4⟩, ⟨%fa5, %ea5, Ha5⟩, ⟨%fa6, %ea6, Ha6⟩, ⟨%fa7, %ea7, Ha7⟩, ⟨%fa8, %ea8, Ha8⟩, ⟨%da9, %fa9, -, Ha9⟩, ⟨%fa10, %ea10, Ha10⟩, ⟨%fa11, %ea11, Ha11⟩, ⟨%fa12, %ea12, Ha12⟩, ⟨%fa13, %ea13, Ha13⟩, ⟨%fa14, %ea14, Ha14⟩, ⟨%fa15, %ea15, Ha15⟩, ⟨%fa16, %ea16, Ha16⟩, Hk⟩
  subst ea2
  subst ea3
  subst ea4
  subst ea5
  subst ea6
  subst ea7
  subst ea8
  obtain ⟨hs, ss, cs, sc, sf, acs, acm⟩ := s
  dsimp only at ea10 ea11 ea12 ea13 ea14 ea15 ea16
  subst ea10 ea11 ea12 ea13 ea14 ea15 ea16
  sl_exec (disch := first | sl_exact hq0 | sl_exact hq1 | sl_exact hq2 | sl_exact hl0 | sl_exact hl1 | sl_exact hl2)
  sl_step
  iapply Hk
  isplitl [Ha2]
  · iexists fa2; isplitr; swap; · iexact Ha2
    ipureintro; rfl
  isplitl [Ha3]
  · iexists fa3; isplitr; swap; · iexact Ha3
    ipureintro; rfl
  isplitl [Ha4]
  · iexists fa4; isplitr; swap; · iexact Ha4
    ipureintro; rfl
  isplitl [Ha5]
  · iexists fa5; isplitr; swap; · iexact Ha5
    ipureintro; rfl
  isplitl [Ha6]
  · iexists fa6; isplitr; swap; · iexact Ha6
    ipureintro; rfl
  isplitl [Ha7]
  · iexists fa7; isplitr; swap; · iexact Ha7
    ipureintro; rfl
  isplitl [Ha8]
  · iexists fa8; isplitr; swap; · iexact Ha8
    ipureintro; rfl
  isplitl [Ha9]
  · iexists _; isplitr; swap; · iexact Ha9
    ipureintro
    sl_unfold_run_names
    repeat rw [View.read_writes_full]
    repeat rw [read_writes_unit]
    repeat rw [View.readCov_full]
    repeat rw [readCov_same]
    repeat rw [View.readAt_full]
    first
      | simp only [St.layer1, St.quant1_ss64, St.quant1_sc64, St.quant1_cs64]; simp only [St.acm40, St.acs40, St.quant1, View.writes_nil]; rfl
      | rfl
      | simp only [St.final, St.layer1, St.quant1_ss64, St.quant1_sc64, St.quant1_cs64, St.quant2_ss40, St.quant2_sc40, St.quant2_cs40]; rfl
  isplitl [Ha10]
  · iexists fa10; isplitr; swap; · iexact Ha10
    ipureintro; rfl
  isplitl [Ha11]
  · iexists fa11; isplitr; swap; · iexact Ha11
    ipureintro; rfl
  isplitl [Ha12]
  · iexists fa12; isplitr; swap; · iexact Ha12
    ipureintro; rfl
  isplitl [Ha13]
  · iexists fa13; isplitr; swap; · iexact Ha13
    ipureintro; rfl
  isplitl [Ha14]
  · iexists fa14; isplitr; swap; · iexact Ha14
    ipureintro; rfl
  isplitl [Ha15]
  · iexists fa15; isplitr; swap; · iexact Ha15
    ipureintro; rfl
  iexists fa16; isplitr; swap; · iexact Ha16
  ipureintro; rfl

end Cert.KernelIdeal.Hand

end
-- ==== Proof.KernelIdeal.Closed.lean ====
module

public import proofs.«01_k».proof.Proof.KernelIdeal.Body

/-!
The second region's state, point by point: what the scratches hold after any number of row blocks of each of the
three layers, as functions of the region's operands alone, and that the bodies' steps keep to it.
-/

@[expose] public section

noncomputable section

namespace Cert.KernelIdeal.Hand

open Cert.KernelIdeal Cert.KernelIdeal.Gen
open Idealize.ShloMosaic

variable {F : FTy → Type} [FloatOps F] [Named F]

/-- The second region's operands: the whole arrays, and the row blocks of the quantised matrix. -/
structure In (F : FTy → Type) where
  s2 : S10000x128.Idx → Elt F .bf16
  b2 : S1x128.Idx → Elt F .f32
  w3 : S128x64.Idx → Elt F .bf16
  b3 : S1x64.Idx → Elt F .f32
  w4 : S64x40.Idx → Elt F .bf16
  b4 : S1x40.Idx → Elt F .f32
  A : ℕ → S1000x10000.Idx → Elt F .fp8e4m3

/-- The index inside one row block of an index of the kept operand. -/
def loc64 (y : S10x1000x64.Idx) : S1x1000x64.Idx
  | ⟨0, _⟩ => (⟨0, Nat.one_pos⟩ : Fin 1)
  | ⟨1, _⟩ => y 1
  | ⟨2, _⟩ => y 2

/-- The same in the first 40 columns. -/
def loc40 (y : S10x1000x64.Idx) (h : (y 2).val < 40) : S1x1000x40.Idx
  | ⟨0, _⟩ => (⟨0, Nat.one_pos⟩ : Fin 1)
  | ⟨1, _⟩ => y 1
  | ⟨2, _⟩ => ⟨(y 2).val, h⟩

theorem put64 {α : Type} (x : S10x1000x64.Idx → α) (n : ℕ) (w : S1x1000x64.Idx → α) (y : S10x1000x64.Idx) :
    VecWindow.put x ![n, 0, 0] S1x1000x64.size w y = if (y 0).val = n then w (loc64 y) else x y := by
  unfold VecWindow.put
  by_cases h : (y 0).val = n
  · have hh : ∀ a : Fin S10x1000x64.rank, ![n, 0, 0] a ≤ (y a).val ∧ (y a).val < ![n, 0, 0] a + S1x1000x64.size a := by
      intro a
      match a with
      | ⟨0, _⟩ => exact ⟨h.ge, by show (y 0).val < n + 1; omega⟩
      | ⟨1, _⟩ => exact ⟨Nat.zero_le _, by show (y 1).val < 0 + 1000; have := (y 1).isLt; have e : S10x1000x64.size 1 = 1000 := rfl; omega⟩
      | ⟨2, _⟩ => exact ⟨Nat.zero_le _, by show (y 2).val < 0 + 64; have := (y 2).isLt; have e : S10x1000x64.size 2 = 64 := rfl; omega⟩
    rw [if_pos h, dif_pos hh]
    congr 1
    funext a
    apply Fin.ext
    match a with
    | ⟨0, _⟩ => show (y 0).val - n = 0; omega
    | ⟨1, _⟩ => show (y 1).val - 0 = (y 1).val; omega
    | ⟨2, _⟩ => show (y 2).val - 0 = (y 2).val; omega
  · rw [if_neg h, dif_neg]
    intro hh
    have := hh 0
    have h1 : n ≤ (y 0).val := this.1
    have h2 : (y 0).val < n + 1 := this.2
    omega

theorem put40 {α : Type} (x : S10x1000x64.Idx → α) (n : ℕ) (w : S1x1000x40.Idx → α) (y : S10x1000x64.Idx) :
    VecWindow.put x ![n, 0, 0] S1x1000x40.size w y
      = if h : (y 0).val = n ∧ (y 2).val < 40 then w (loc40 y h.2) else x y := by
  unfold VecWindow.put
  by_cases h : (y 0).val = n ∧ (y 2).val < 40
  · have hh : ∀ a : Fin S10x1000x64.rank, ![n, 0, 0] a ≤ (y a).val ∧ (y a).val < ![n, 0, 0] a + S1x1000x40.size a := by
      intro a
      match a with
      | ⟨0, _⟩ => exact ⟨h.1.ge, by show (y 0).val < n + 1; omega⟩
      | ⟨1, _⟩ => exact ⟨Nat.zero_le _, by show (y 1).val < 0 + 1000; have := (y 1).isLt; have e : S10x1000x64.size 1 = 1000 := rfl; omega⟩
      | ⟨2, _⟩ => exact ⟨Nat.zero_le _, by show (y 2).val < 0 + 40; omega⟩
    rw [dif_pos h, dif_pos hh]
    congr 1
    funext a
    apply Fin.ext
    match a with
    | ⟨0, _⟩ => show (y 0).val - n = 0; omega
    | ⟨1, _⟩ => show (y 1).val - 0 = (y 1).val; omega
    | ⟨2, _⟩ => show (y 2).val - 0 = (y 2).val; omega
  · rw [dif_neg h, dif_neg]
    intro hh
    have h0 := hh 0
    have h1 : n ≤ (y 0).val := h0.1
    have h2 : (y 0).val < n + 1 := h0.2
    have h3 : (y 2).val < 0 + 40 := (hh 2).2
    exact h ⟨by omega, by omega⟩

namespace In

variable (I : In F)

/-! ### The first layer -/

def q0 : S10000x128.Idx → Elt F .fp8e4m3 := k1_pay5 I.s2
def c0 : S1x128.Idx → Elt F .f32 := k1_pay6 I.s2
def g0 : S1x128.Idx → Elt F .f32 := k1_pay7 I.s2
/-- The next layer's operand, one row block, flat and as stored. -/
def r0 (n : ℕ) : S1000x64.Idx → Elt F .f32 := k1_pay27 (I.A n) I.q0 I.g0 I.c0 I.b2 I.w3
def p0 (n : ℕ) : S1x1000x64.Idx → Elt F .f32 := k1_pay28 (I.A n) I.q0 I.g0 I.c0 I.b2 I.w3
/-- Its column sums and its column maxima over the first row blocks. -/
def acs0 : ℕ → S1x64.Idx → Elt F .f32
  | 0 => broadcast S1x64 (Scalar.ofBits .f32 0x00000000#32 : F .f32)
  | n + 1 => k1_pay20 (I.r0 n) (k1_pay29 (BitVec.ofNat 32 n) (acs0 n))
def acm0 : ℕ → S1x64.Idx → Elt F .f32
  | 0 => broadcast S1x64 (Scalar.ofBits .f32 0x00000000#32 : F .f32)
  | n + 1 => k1_pay21 (I.r0 n) (Scalar.cmpi .eq (BitVec.ofNat 32 n) 0#32) (acm0 n)
def sf0 (y : S10x1000x64.Idx) : Elt F .f32 := I.p0 (y 0).val (loc64 y)

/-! ### The second layer -/

def q1 : S10000x64.Idx → Elt F .fp8e4m3 := k1_pay11 I.sf0 (I.acm0 10)
def c1 : S1x64.Idx → Elt F .f32 := k1_pay12 I.sf0 (I.acm0 10) (I.acs0 10)
def g1 : S1x64.Idx → Elt F .f32 := k1_pay13 (I.acm0 10)
def r1 (n : ℕ) : S1000x40.Idx → Elt F .f32 := k1_pay32 (I.A n) I.q1 I.g1 I.c1 I.b3 I.w4
def p1 (n : ℕ) : S1x1000x40.Idx → Elt F .f32 := k1_pay33 (I.A n) I.q1 I.g1 I.c1 I.b3 I.w4
def acs1 : ℕ → S1x40.Idx → Elt F .f32
  | 0 => broadcast S1x40 (Scalar.ofBits .f32 0x00000000#32 : F .f32)
  | n + 1 => k1_pay22 (I.r1 n) (k1_pay34 (BitVec.ofNat 32 n) (acs1 n))
def acm1 : ℕ → S1x40.Idx → Elt F .f32
  | 0 => broadcast S1x40 (Scalar.ofBits .f32 0x00000000#32 : F .f32)
  | n + 1 => k1_pay23 (I.r1 n) (Scalar.cmpi .eq (BitVec.ofNat 32 n) 0#32) (acm1 n)
def sf1 (y : S10x1000x64.Idx) : Elt F .f32 := if h : (y 2).val < 40 then I.p1 (y 0).val (loc40 y h) else I.sf0 y

/-! ### The third layer -/

def q2 : S10000x40.Idx → Elt F .fp8e4m3 := k1_pay17 I.sf1 (I.acm1 10)
def c2 : S1x40.Idx → Elt F .f32 := k1_pay18 I.sf1 (I.acm1 10) (I.acs1 10)
def g2 : S1x40.Idx → Elt F .f32 := k1_pay19 (I.acm1 10)
/-- One row block of the result. -/
def out (n : ℕ) : S1000x40.Idx → Elt F .f32 := k1_pay24 (I.A n) I.q2 I.g2 I.c2 I.b4

/-! ### The state after `n` row blocks of a layer -/

structure P0 (n : ℕ) (s : St F) : Prop where
  quant : n ≠ 0 → s.ss = I.q0 ∧ s.cs = I.c0 ∧ s.sc = I.g0 ∧ s.acs = I.acs0 n ∧ s.acm = I.acm0 n
  sf : ∀ y, (y 0).val < n → s.sf y = I.sf0 y

structure P1 (n : ℕ) (s : St F) : Prop where
  start : n = 0 → s.acs = I.acs0 10 ∧ s.acm = I.acm0 10
  quant : n ≠ 0 → s.ss64 = I.q1 ∧ s.cs64 = I.c1 ∧ s.sc64 = I.g1 ∧ s.acs40 = I.acs1 n ∧ s.acm40 = I.acm1 n
  sf : ∀ y, s.sf y = if (y 0).val < n then I.sf1 y else I.sf0 y

structure P2 (n : ℕ) (s : St F) : Prop where
  start : n = 0 → s.acs40 = I.acs1 10 ∧ s.acm40 = I.acm1 10 ∧ s.sf = I.sf1
  quant : n ≠ 0 → s.ss40 = I.q2 ∧ s.cs40 = I.c2 ∧ s.sc40 = I.g2

/-- The state before point `n` of the region's thirty. -/
structure Inv (n : ℕ) (s : St F) : Prop where
  l0 : n < 10 → I.P0 n s
  l1 : 10 ≤ n → n < 20 → I.P1 (n - 10) s
  l2 : 20 ≤ n → I.P2 (n - 20) s

theorem inv_zero (s : St F) : I.Inv 0 s :=
  ⟨fun _ => ⟨fun h => absurd rfl h, fun _ h => absurd h (Nat.not_lt_zero _)⟩, fun h => absurd h (by decide), fun h => absurd h (by decide)⟩

theorem P0.to1 {I : In F} {s : St F} (h : I.P0 10 s) : I.P1 0 s where
  start _ := ⟨(h.quant (by decide)).2.2.2.1, (h.quant (by decide)).2.2.2.2⟩
  quant h0 := absurd rfl h0
  sf y := by
    rw [if_neg (Nat.not_lt_zero _)]
    exact h.sf y (y 0).isLt

theorem P1.to2 {I : In F} {s : St F} (h : I.P1 10 s) : I.P2 0 s where
  start _ := ⟨(h.quant (by decide)).2.2.2.1, (h.quant (by decide)).2.2.2.2, funext fun y => by
    rw [h.sf y, if_pos (show (y 0).val < 10 from (y 0).isLt)]⟩
  quant h0 := absurd rfl h0

theorem Inv.of0 {I : In F} {n : ℕ} {s : St F} (hn : n < 10) (h : I.P0 (n + 1) s) : I.Inv (n + 1) s where
  l0 _ := h
  l1 h1 _ := by obtain rfl : n = 9 := by omega
                exact h.to1
  l2 h2 := absurd h2 (by omega)

theorem Inv.of1 {I : In F} {n : ℕ} {s : St F} (hn : n < 10) (h : I.P1 (n + 1) s) : I.Inv (10 + n + 1) s where
  l0 h0 := absurd h0 (by omega)
  l1 _ _ := by rw [show 10 + n + 1 - 10 = n + 1 by omega]; exact h
  l2 h2 := by obtain rfl : n = 9 := by omega
              exact h.to2

theorem Inv.of2 {I : In F} {n : ℕ} {s : St F} (h : I.P2 (n + 1) s) : I.Inv (20 + n + 1) s where
  l0 h0 := absurd h0 (by omega)
  l1 _ h1 := absurd h1 (by omega)
  l2 _ := by rw [show 20 + n + 1 - 20 = n + 1 by omega]; exact h

theorem k1_off2_eq (i : grid1.Coords) : k1_off2 i = ![(i 1).val, 0, 0] := by
  obtain ⟨n, hn⟩ : ∃ n : Fin 10, (i 1) = n := ⟨i 1, rfl⟩
  unfold k1_off2; rw [hn]; clear hn; revert n; decide

theorem k1_off4_eq (i : grid1.Coords) : k1_off4 i = ![(i 1).val, 0, 0] := by
  obtain ⟨n, hn⟩ : ∃ n : Fin 10, (i 1) = n := ⟨i 1, rfl⟩
  unfold k1_off4; rw [hn]; clear hn; revert n; decide

theorem acs0_any (n : ℕ) (hn : n = 0) (a b : S1x64.Idx → Elt F .f32) :
    k1_pay29 (BitVec.ofNat 32 n) a = k1_pay29 (BitVec.ofNat 32 n) b := by subst hn; rfl

theorem acs1_any (n : ℕ) (hn : n = 0) (a b : S1x40.Idx → Elt F .f32) :
    k1_pay34 (BitVec.ofNat 32 n) a = k1_pay34 (BitVec.ofNat 32 n) b := by subst hn; rfl

theorem acm0_any (n : ℕ) (hn : n = 0) (r : S1000x64.Idx → Elt F .f32) (a b : S1x64.Idx → Elt F .f32) :
    k1_pay21 r (Scalar.cmpi .eq (BitVec.ofNat 32 n) 0#32) a = k1_pay21 r (Scalar.cmpi .eq (BitVec.ofNat 32 n) 0#32) b := by subst hn; rfl

theorem acm1_any (n : ℕ) (hn : n = 0) (r : S1000x40.Idx → Elt F .f32) (a b : S1x40.Idx → Elt F .f32) :
    k1_pay23 r (Scalar.cmpi .eq (BitVec.ofNat 32 n) 0#32) a = k1_pay23 r (Scalar.cmpi .eq (BitVec.ofNat 32 n) 0#32) b := by subst hn; rfl

/-- A row block of the first layer: from the operand quantised, and the sums and maxima so far. -/
theorem layer0_step (i : grid1.Coords) (n : ℕ) (hi : (i 1).val = n) (s : St F)
    (hq : s.ss = I.q0 ∧ s.cs = I.c0 ∧ s.sc = I.g0) (ha : n ≠ 0 → s.acs = I.acs0 n ∧ s.acm = I.acm0 n)
    (hsf : ∀ y, (y 0).val < n → s.sf y = I.sf0 y) :
    I.P0 (n + 1) (s.layer0 i I.b2 I.w3 (I.A n)) := by
  obtain ⟨h1, h2, h3⟩ := hq
  refine ⟨fun _ => ⟨h1, h2, h3, ?_, ?_⟩, fun y hy => ?_⟩
  · show k1_pay20 (k1_pay27 (I.A n) s.ss s.sc s.cs I.b2 I.w3) (k1_pay29 (BitVec.ofNat 32 (i 1).val) s.acs) = I.acs0 (n + 1)
    rw [h1, h2, h3, hi]
    show k1_pay20 (I.r0 n) _ = k1_pay20 (I.r0 n) _
    by_cases h0 : n = 0
    · rw [acs0_any n h0 s.acs (I.acs0 n)]
    · rw [(ha h0).1]
  · show k1_pay21 (k1_pay27 (I.A n) s.ss s.sc s.cs I.b2 I.w3) (Scalar.cmpi .eq (BitVec.ofNat 32 (i 1).val) 0#32) s.acm = I.acm0 (n + 1)
    rw [h1, h2, h3, hi]
    show k1_pay21 (I.r0 n) _ _ = k1_pay21 (I.r0 n) _ _
    by_cases h0 : n = 0
    · exact acm0_any n h0 _ _ _
    · rw [(ha h0).2]
  · show VecWindow.put s.sf (k1_off2 i) S1x1000x64.size (k1_pay28 (I.A n) s.ss s.sc s.cs I.b2 I.w3) y = _
    rw [h1, h2, h3, k1_off2_eq, hi, put64]
    by_cases h0 : (y 0).val = n
    · rw [if_pos h0]; unfold sf0; rw [h0]; rfl
    · rw [if_neg h0]; exact hsf y (by omega)

theorem first0 (i : grid1.Coords) (hi : (i 1).val = 0) (s : St F) :
    I.P0 1 ((s.quant0 I.s2).layer0 i I.b2 I.w3 (I.A 0)) :=
  I.layer0_step i 0 hi _ ⟨rfl, rfl, rfl⟩ (fun h => absurd rfl h) (fun _ h => absurd h (Nat.not_lt_zero _))

theorem later0 (i : grid1.Coords) (n : ℕ) (hi : (i 1).val = n) (h0 : n ≠ 0) (s : St F) (h : I.P0 n s) :
    I.P0 (n + 1) (s.layer0 i I.b2 I.w3 (I.A n)) :=
  I.layer0_step i n hi s ⟨(h.quant h0).1, (h.quant h0).2.1, (h.quant h0).2.2.1⟩ (fun _ => (h.quant h0).2.2.2) h.sf

/-- A row block of the second layer. -/
theorem layer1_step (i : grid1.Coords) (n : ℕ) (hi : (i 1).val = n) (s : St F)
    (hq : s.ss64 = I.q1 ∧ s.cs64 = I.c1 ∧ s.sc64 = I.g1) (ha : n ≠ 0 → s.acs40 = I.acs1 n ∧ s.acm40 = I.acm1 n)
    (hsf : ∀ y, s.sf y = if (y 0).val < n then I.sf1 y else I.sf0 y) :
    I.P1 (n + 1) (s.layer1 i I.b3 I.w4 (I.A n)) := by
  obtain ⟨h1, h2, h3⟩ := hq
  refine ⟨fun h => absurd h (Nat.succ_ne_zero _), fun _ => ⟨h1, h2, h3, ?_, ?_⟩, fun y => ?_⟩
  · refine (VecWindow.window_put_same _ _ _ _ _).trans ?_
    rw [h1, h2, h3, hi]
    show k1_pay22 (I.r1 n) _ = k1_pay22 (I.r1 n) _
    by_cases h0 : n = 0
    · rw [acs1_any n h0 s.acs40 (I.acs1 n)]
    · rw [(ha h0).1]
  · refine (VecWindow.window_put_same _ _ _ _ _).trans ?_
    rw [h1, h2, h3, hi]
    show k1_pay23 (I.r1 n) _ _ = k1_pay23 (I.r1 n) _ _
    by_cases h0 : n = 0
    · exact acm1_any n h0 _ _ _
    · rw [(ha h0).2]
  · show VecWindow.put s.sf (k1_off4 i) S1x1000x40.size (k1_pay33 (I.A n) s.ss64 s.sc64 s.cs64 I.b3 I.w4) y = _
    rw [h1, h2, h3, k1_off4_eq, hi, put40]
    by_cases h0 : (y 0).val = n ∧ (y 2).val < 40
    · rw [dif_pos h0, if_pos (by omega)]; unfold sf1; rw [dif_pos h0.2]; show I.p1 n _ = _; congr 1; exact h0.1.symm
    · rw [dif_neg h0, hsf y]
      by_cases h4 : (y 0).val < n
      · rw [if_pos h4, if_pos (by omega)]
      · rw [if_neg h4]
        by_cases h5 : (y 0).val = n
        · rw [if_pos (by omega)]; unfold sf1; rw [dif_neg (fun h6 => h0 ⟨h5, h6⟩)]
        · rw [if_neg (by omega)]

theorem first1 (i : grid1.Coords) (hi : (i 1).val = 0) (s : St F) (h : I.P1 0 s) :
    I.P1 1 (s.quant1.layer1 i I.b3 I.w4 (I.A 0)) := by
  have hs : s.sf = I.sf0 := funext fun y => by rw [h.sf y, if_neg (Nat.not_lt_zero _)]
  obtain ⟨ha, hm⟩ := h.start rfl
  refine I.layer1_step i 0 hi _ ⟨?_, ?_, ?_⟩ (fun h => absurd rfl h) (fun y => by rw [if_neg (Nat.not_lt_zero _)]; exact congrFun hs y)
  · rw [St.quant1_ss64, hs, hm]; rfl
  · rw [St.quant1_cs64, hs, hm, ha]; rfl
  · rw [St.quant1_sc64, hm]; rfl

theorem later1 (i : grid1.Coords) (n : ℕ) (hi : (i 1).val = n) (h0 : n ≠ 0) (s : St F) (h : I.P1 n s) :
    I.P1 (n + 1) (s.layer1 i I.b3 I.w4 (I.A n)) :=
  I.layer1_step i n hi s ⟨(h.quant h0).1, (h.quant h0).2.1, (h.quant h0).2.2.1⟩ (fun _ => (h.quant h0).2.2.2) h.sf

theorem first2 (s : St F) (h : I.P2 0 s) : I.P2 1 s.quant2 ∧ s.quant2.final I.b4 (I.A 0) = I.out 0 := by
  obtain ⟨ha, hm, hs⟩ := h.start rfl
  have h1 : s.quant2.ss40 = I.q2 := by rw [St.quant2_ss40, hs, hm]; rfl
  have h2 : s.quant2.cs40 = I.c2 := by rw [St.quant2_cs40, hs, hm, ha]; rfl
  have h3 : s.quant2.sc40 = I.g2 := by rw [St.quant2_sc40, hm]; rfl
  refine ⟨⟨fun h => absurd h (by decide), fun _ => ⟨h1, h2, h3⟩⟩, ?_⟩
  unfold St.final; rw [h1, h2, h3]; rfl

theorem later2 (n : ℕ) (h0 : n ≠ 0) (s : St F) (h : I.P2 n s) : I.P2 (n + 1) s ∧ s.final I.b4 (I.A n) = I.out n := by
  obtain ⟨h1, h2, h3⟩ := h.quant h0
  refine ⟨⟨fun h => absurd h (Nat.succ_ne_zero _), fun _ => ⟨h1, h2, h3⟩⟩, ?_⟩
  unfold St.final; rw [h1, h2, h3]; rfl

end In

end Cert.KernelIdeal.Hand

end
-- ==== Proof.KernelIdeal.Region0.lean ====
module

public import proofs.«01_k».proof.Proof.KernelIdeal.Body
public import proofs.«01_k».proof.Proof.Gen.KernelIdeal.Launch
public import Idealize.ShloMosaic.Lib.Pipeline.RegionArraysS
public import Idealize.ShloMosaic.Lib.Pipeline.FrameBody

/-!
The first region: the proof data of its pipeline from any contents of the arrays at its entry, and its body's
obligation.  The scratch holds the support from the first point on.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-- A buffer of the core held whole at some contents. -/
abbrev someAt (c : Dev nD) (b : Ref sig .tc) : sProp 𝕄 :=
  iprop(∃ f : Buf (Elt F) ((c : Thread nD τ).loc b), ((c : Thread nD τ).loc b) ↦{fullShare} f)

/-- The scoped buffers beside the first region's staging buffers and its scratch, each at some contents. -/
def rest0 (c : Dev nD) : sProp 𝕄 :=
  bigSepL [cc1_stg0_0, cc1_stg1_0, cc1_stg2_0, cc1_stg3_0, cc1_stg4_0, cc1_stg5_0, cc1_stg6_0, cc1_stg6_1, cc1_stg7_0, cc1_stg7_1,
    cc1_scratch0, cc1_scratch1, cc1_scratch2, cc1_scratch3, cc1_scratch4, cc1_scratch5, cc1_scratch6] (someAt (F := F) c)

theorem scoped0 (c : Dev nD) :
    (Pipeline.scopedRest (Ix := Unit) (Name := ℕ) (U := Pipeline.UD sig nD τ) (Lvl := ℕ) (Val := Elt F) spec0 c : sProp 𝕄)
      = iprop(someAt (F := F) c cc0_scratch0 ∗ rest0 (F := F) c) :=
  Pipeline.scopedRest_eq_of_list spec0 c [cc0_scratch0, cc1_stg0_0, cc1_stg1_0, cc1_stg2_0, cc1_stg3_0, cc1_stg4_0, cc1_stg5_0, cc1_stg6_0, cc1_stg6_1, cc1_stg7_0, cc1_stg7_1,
    cc1_scratch0, cc1_scratch1, cc1_scratch2, cc1_scratch3, cc1_scratch4, cc1_scratch5, cc1_scratch6] (by decide) (by decide)

variable (W : Dev nD → Valuation τ sig (Elt F))

/-- The block of the first region's window `w` at point `t`, read out of its array at the region's entry. -/
abbrev blk0 (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (Pipeline.arrRef spec0 w)))

/-- The first grid point. -/
abbrev t0 : Fin cfg0.N := ⟨0, by decide⟩

/-- The support the first region computes at its first point and keeps. -/
def supp0 (c : Dev nD) : S10000x256.Idx → Elt F .bf16 := k0_pay1 (blk0 W c 0 t0) (blk0 W c 1 t0)

/-- The scratch: anything at the entry, the support after the first point. -/
def scr0 (c : Dev nD) (n : ℕ) : sProp 𝕄 :=
  iprop(∃ d : S10000x256.Idx → Elt F .bf16, ⌜n ≠ 0 → d = supp0 W c⌝ ∗ owns (c : Thread nD τ) (Memref.whole cc0_scratch0) fullShare d)

/-- The proof data of the first region entered at `W`. -/
def dat0 (c : Dev nD) : Dat τ (Elt F) Unit ℕ (Pipeline.UD sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => k0_pay3 (blk0 W c 4 t) (supp0 W c) (blk0 W c 2 t0) (blk0 W c 3 t0)
    | ⟨6, _⟩ => k0_pay2 (blk0 W c 4 t)
  Φ t := iprop(scr0 W c t.val ∗ rest0 (F := F) c)
  q _ := fullShare
  owed _ := 0

theorem before0_0 (c : Dev nD) (t : Fin cfg0.N) (d) : (dat0 W c).before 0 t d = blk0 W c 0 t :=
  (dat0 W c).before_in_eq_fetched 0 rfl (fun _ => rfl) (fun _ _ _ => rfl) (fun _ => rfl) t d

theorem before0_1 (c : Dev nD) (t : Fin cfg0.N) (d) : (dat0 W c).before 1 t d = blk0 W c 1 t :=
  (dat0 W c).before_in_eq_fetched 1 rfl (fun _ => rfl) (fun _ _ _ => rfl) (fun _ => rfl) t d

theorem before0_2 (c : Dev nD) (t : Fin cfg0.N) (d) : (dat0 W c).before 2 t d = blk0 W c 2 t :=
  (dat0 W c).before_in_eq_fetched 2 rfl (fun _ => rfl) (fun _ _ _ => rfl) (fun _ => rfl) t d

theorem before0_3 (c : Dev nD) (t : Fin cfg0.N) (d) : (dat0 W c).before 3 t d = blk0 W c 3 t :=
  (dat0 W c).before_in_eq_fetched 3 rfl (fun _ => rfl) (fun _ _ _ => rfl) (fun _ => rfl) t d

theorem before0_4 (c : Dev nD) (t : Fin cfg0.N) (d) : (dat0 W c).before 4 t d = blk0 W c 4 t :=
  (dat0 W c).before_in_eq_fetched 4 rfl (fun _ => rfl) (fun _ _ _ => rfl) (fun _ => rfl) t d

theorem coords0 (t : Fin cfg0.N) : ((grid0.coords t) 0).val = t.val := by
  revert t; decide

theorem blk0_const (c : Dev nD) (t : Fin cfg0.N) :
    blk0 W c 0 t = blk0 W c 0 t0 ∧ blk0 W c 1 t = blk0 W c 1 t0 ∧ blk0 W c 2 t = blk0 W c 2 t0 ∧ blk0 W c 3 t = blk0 W c 3 t0 :=
  ⟨rfl, rfl, rfl, rfl⟩

theorem first0_iff (t : Fin cfg0.N) (ht : t.val ≠ 0) :
    ¬ Scalar.cmpi .ne (Scalar.extui (Scalar.cmpi .eq (BitVec.ofNat 32 ((grid0.coords t) 0).val) 0#32) : BitVec 32) 0#32 = 1#1 := by
  revert t; decide

theorem body0 (c : Dev nD) : BodyObligation (dat0 W c) (defs₀ (F := F)) Variants.none () Set.univ := fun t => by
  rw [bigSep_W0, bigSep_W0]
  obtain ⟨e0, e1, e2, e3⟩ := blk0_const W c t
  rw [show (dat0 W c).Φ t.castSucc = iprop(scr0 W c t.val ∗ rest0 (F := F) c) from rfl,
    show (dat0 W c).Φ t.succ = iprop(scr0 W c (t.val + 1) ∗ rest0 (F := F) c) from rfl,
    show (dat0 W c).owesAt () t.succ = (dat0 W c).owesAt () t.castSucc from rfl]
  show iprop(_ ∗ _ ∗ _) ⊢ wp frame (wpE (defs₀ (F := F)) Variants.none c none) Set.univ (bodyAt0 t) _
  iintro ⟨⟨HS, HR⟩, Howes, ⟨%d0, H0⟩, ⟨%d1, H1⟩, ⟨%d2, H2⟩, ⟨%d3, H3⟩, ⟨%d4, H4⟩, ⟨%d5, H5⟩, ⟨%d6, H6⟩⟩
  rw [before0_0, before0_1, before0_2, before0_3, before0_4]
  unfold scr0
  icases HS with ⟨%ds, %hds, HS⟩
  by_cases ht : t.val = 0
  · iapply (run0_first (F := F) c (grid0.coords t) ((coords0 t).trans ht) (st0_0 t) _ (st0_1 t) _ (st0_2 t) _ (st0_3 t) _ (st0_4 t) _
      (st0_5 t) _ (st0_6 t) _ (Memref.whole cc0_scratch0) _ (blk0 W c 0 t) (blk0 W c 1 t) (blk0 W c 2 t) (blk0 W c 3 t) (blk0 W c 4 t))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, HS⟩
    isplitl [HS HR]
    · isplitl [HS]
      · iexists _; isplitr; swap; (· iexact HS); ipureintro; intro _; rfl
      · iexact HR
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  · obtain rfl := hds ht
    iapply (run0_later (F := F) c (grid0.coords t) (first0_iff t ht) (st0_0 t) _ (st0_1 t) _ (st0_2 t) _ (st0_3 t) _ (st0_4 t) _
      (st0_5 t) _ (st0_6 t) _ (Memref.whole cc0_scratch0) _ (blk0 W c 0 t) (blk0 W c 1 t) (blk0 W c 2 t) (blk0 W c 3 t) (blk0 W c 4 t))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR]
    · isplitl [HS]
      · iexists _; isplitr; swap; (· iexact HS); ipureintro; intro _; rfl
      · iexact HR
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6

theorem entry0 (c : Dev nD) :
    iprop(Pipeline.scopedRest (Ix := Unit) (Name := ℕ) (U := Pipeline.UD sig nD τ) (Lvl := ℕ) (Val := Elt F) spec0 c ∗ BI.emp)
      ⊢ (dat0 W c).Φ 0 := by
  rw [scoped0, show (dat0 W c).Φ 0 = iprop(scr0 W c 0 ∗ rest0 (F := F) c) from rfl]
  unfold scr0 someAt
  iintro ⟨⟨⟨%f, HS⟩, HR⟩, -⟩
  isplitl [HS]
  · iexists f
    isplitr
    · ipureintro; intro h; exact absurd rfl h
    rw [owns_whole]; iexact HS
  iexact HR

theorem exit0 (c : Dev nD) :
    (dat0 W c).Φ (Fin.last cfg0.N)
      ⊢ iprop(Pipeline.scopedRest (Ix := Unit) (Name := ℕ) (U := Pipeline.UD sig nD τ) (Lvl := ℕ) (Val := Elt F) spec0 c ∗ BI.emp) := by
  rw [scoped0, show (dat0 W c).Φ (Fin.last cfg0.N) = iprop(scr0 W c cfg0.N ∗ rest0 (F := F) c) from rfl]
  unfold scr0 someAt
  simp only [owns_whole]
  iintro ⟨⟨%f, -, HS⟩, HR⟩
  isplitl [HS HR]
  · isplitl [HS]
    · iexists f; iexact HS
    iexact HR
  iempintro

end Cert.KernelIdeal.Hand

end
-- ==== Proof.KernelIdeal.Region1.lean ====
module

public import proofs.«01_k».proof.Proof.KernelIdeal.Closed
public import proofs.«01_k».proof.Proof.KernelIdeal.Region0
public import Idealize.ShloMosaic.Lib.Pipeline.TableIdle

/-!
The second region: the proof data of its pipeline from any contents of the arrays at its entry, and its body's
obligation.  The invariant between two points is the state of the scratches there.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-- The scoped buffers beside the second region's staging buffers and its scratches, each at some contents. -/
def rest1 (c : Dev nD) : sProp 𝕄 :=
  bigSepL [cc0_stg0_0, cc0_stg1_0, cc0_stg2_0, cc0_stg3_0, cc0_stg4_0, cc0_stg4_1, cc0_stg5_0, cc0_stg5_1, cc0_stg6_0, cc0_stg6_1, cc0_scratch0]
    (someAt (F := F) c)

theorem scoped1 (c : Dev nD) :
    (Pipeline.scopedRest (Ix := Unit) (Name := ℕ) (U := Pipeline.UD sig nD τ) (Lvl := ℕ) (Val := Elt F) spec1 c : sProp 𝕄)
      = iprop(someAt (F := F) c cc1_scratch0 ∗ someAt (F := F) c cc1_scratch1 ∗ someAt (F := F) c cc1_scratch2 ∗ someAt (F := F) c cc1_scratch3
          ∗ someAt (F := F) c cc1_scratch4 ∗ someAt (F := F) c cc1_scratch5 ∗ someAt (F := F) c cc1_scratch6 ∗ rest1 (F := F) c) :=
  Pipeline.scopedRest_eq_of_list spec1 c [cc1_scratch0, cc1_scratch1, cc1_scratch2, cc1_scratch3, cc1_scratch4, cc1_scratch5, cc1_scratch6,
    cc0_stg0_0, cc0_stg1_0, cc0_stg2_0, cc0_stg3_0, cc0_stg4_0, cc0_stg4_1, cc0_stg5_0, cc0_stg5_1, cc0_stg6_0, cc0_stg6_1, cc0_scratch0]
    (by decide) (by decide)

variable (W : Dev nD → Valuation τ sig (Elt F))

/-- The block of the second region's window `w` at point `t`, read out of its array at the region's entry. -/
abbrev blk1 (c : Dev nD) (w : Fin cfg1.W) (t : Fin cfg1.N) :
    ((cfg1.win w).xblock (cfg1.grid.coords t)).Idx → Elt F (cfg1.win w).elt :=
  ((cfg1.win w).blk t).view.read (Elt F) (W c (Proc.devRef .tc (Pipeline.arrRef spec1 w)))

/-- A grid point by its number. -/
def pt1 (n : ℕ) : Fin cfg1.N := ⟨n % 30, Nat.mod_lt _ (by decide)⟩

/-- The operands as the region's windows bring them. -/
def ins (c : Dev nD) : In F where
  s2 := blk1 W c 0 (pt1 0)
  b2 := blk1 W c 1 (pt1 0)
  w3 := blk1 W c 2 (pt1 0)
  b3 := blk1 W c 3 (pt1 0)
  w4 := blk1 W c 4 (pt1 0)
  b4 := blk1 W c 5 (pt1 0)
  A n := blk1 W c 6 (pt1 n)

/-- The seven scratches at a state. -/
def scr1 (c : Dev nD) (s : St F) : sProp 𝕄 :=
  iprop(owns (c : Thread nD τ) (Memref.whole cc1_scratch0) fullShare s.hs ∗ owns (c : Thread nD τ) (Memref.whole cc1_scratch1) fullShare s.ss
    ∗ owns (c : Thread nD τ) (Memref.whole cc1_scratch2) fullShare s.cs ∗ owns (c : Thread nD τ) (Memref.whole cc1_scratch3) fullShare s.sc
    ∗ owns (c : Thread nD τ) (Memref.whole cc1_scratch4) fullShare s.sf ∗ owns (c : Thread nD τ) (Memref.whole cc1_scratch5) fullShare s.acs
    ∗ owns (c : Thread nD τ) (Memref.whole cc1_scratch6) fullShare s.acm)

/-- The invariant before point `n`. -/
def inv1 (c : Dev nD) (n : ℕ) : sProp 𝕄 :=
  iprop((∃ s : St F, ⌜(ins W c).Inv n s⌝ ∗ scr1 c s) ∗ rest1 (F := F) c)

/-- The proof data of the second region entered at `W`. -/
def dat1 (c : Dev nD) : Dat τ (Elt F) Unit ℕ (Pipeline.UD sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => (ins W c).out (t.val % 10)
  Φ t := inv1 W c t.val
  q _ := fullShare
  owed _ := 0

theorem before1_0 (c : Dev nD) (t : Fin cfg1.N) (d) : (dat1 W c).before 0 t d = blk1 W c 0 t :=
  (dat1 W c).before_in_eq_fetched 0 rfl (fun _ => rfl) (fun _ _ _ => rfl) (fun _ => rfl) t d

theorem before1_1 (c : Dev nD) (t : Fin cfg1.N) (d) : (dat1 W c).before 1 t d = blk1 W c 1 t :=
  (dat1 W c).before_in_eq_fetched 1 rfl (fun _ => rfl) (fun _ _ _ => rfl) (fun _ => rfl) t d

theorem before1_2 (c : Dev nD) (t : Fin cfg1.N) (d) : (dat1 W c).before 2 t d = blk1 W c 2 t :=
  (dat1 W c).before_in_eq_fetched 2 rfl (fun _ => rfl) (fun _ _ _ => rfl) (fun _ => rfl) t d

theorem before1_3 (c : Dev nD) (t : Fin cfg1.N) (d) : (dat1 W c).before 3 t d = blk1 W c 3 t :=
  (dat1 W c).before_in_eq_fetched 3 rfl (fun _ => rfl) (fun _ _ _ => rfl) (fun _ => rfl) t d

theorem before1_4 (c : Dev nD) (t : Fin cfg1.N) (d) : (dat1 W c).before 4 t d = blk1 W c 4 t :=
  (dat1 W c).before_in_eq_fetched 4 rfl (fun _ => rfl) (fun _ _ _ => rfl) (fun _ => rfl) t d

theorem before1_5 (c : Dev nD) (t : Fin cfg1.N) (d) : (dat1 W c).before 5 t d = blk1 W c 5 t :=
  (dat1 W c).before_in_eq_fetched 5 rfl (fun _ => rfl) (fun _ _ _ => rfl) (fun _ => rfl) t d

theorem before1_6 (c : Dev nD) (t : Fin cfg1.N) (d) : (dat1 W c).before 6 t d = blk1 W c 6 t :=
  (dat1 W c).before_in_eq_fetched 6 rfl (fun _ => rfl) (fun _ _ _ => rfl) (fun _ => rfl) t d

theorem coords1_1 (t : Fin cfg1.N) : ((grid1.coords t) 1).val = t.val % 10 := by
  revert t; decide

theorem blk1_const (c : Dev nD) (t : Fin cfg1.N) :
    blk1 W c 0 t = (ins W c).s2 ∧ blk1 W c 1 t = (ins W c).b2 ∧ blk1 W c 2 t = (ins W c).w3 ∧ blk1 W c 3 t = (ins W c).b3
      ∧ blk1 W c 4 t = (ins W c).w4 ∧ blk1 W c 5 t = (ins W c).b4 :=
  ⟨rfl, rfl, rfl, rfl, rfl, rfl⟩

theorem index1_6 (t : Fin cfg1.N) : (cfg1.win 6).index t = (cfg1.win 6).index (pt1 (t.val % 10)) := by
  show cc1_transform_6 (grid1.coords t) = cc1_transform_6 (grid1.coords (pt1 (t.val % 10)))
  revert t; decide

theorem blk1_6 (c : Dev nD) (t : Fin cfg1.N) : blk1 W c 6 t = (ins W c).A (t.val % 10) :=
  (dat1 W c).fetched_congr 6 (index1_6 t) rfl (blk1 W c 6 t)

theorem isFirst0 (t : Fin cfg1.N) :
    Scalar.cmpi .ne (Scalar.extui (Scalar.andi (Scalar.cmpi .eq (BitVec.ofNat 32 ((grid1.coords t) 0).val) 0#32) (Scalar.cmpi .eq (BitVec.ofNat 32 ((grid1.coords t) 1).val) 0#32)) : BitVec 32) 0#32 = 1#1 ↔ t.val = 0 := by
  revert t; decide

theorem isLayer0 (t : Fin cfg1.N) : k1_cond4 (grid1.coords t) = 1#1 ↔ t.val / 10 = 0 := by
  revert t; decide

theorem isFirst1 (t : Fin cfg1.N) :
    Scalar.cmpi .ne (Scalar.extui (Scalar.andi (Scalar.cmpi .eq (BitVec.ofNat 32 ((grid1.coords t) 0).val) 1#32) (Scalar.cmpi .eq (BitVec.ofNat 32 ((grid1.coords t) 1).val) 0#32)) : BitVec 32) 0#32 = 1#1 ↔ t.val = 10 := by
  revert t; decide

theorem isLayer1 (t : Fin cfg1.N) : k1_cond5 (grid1.coords t) = 1#1 ↔ t.val / 10 = 1 := by
  revert t; decide

theorem isFirst2 (t : Fin cfg1.N) :
    Scalar.cmpi .ne (Scalar.extui (Scalar.andi (Scalar.cmpi .eq (BitVec.ofNat 32 ((grid1.coords t) 0).val) 2#32) (Scalar.cmpi .eq (BitVec.ofNat 32 ((grid1.coords t) 1).val) 0#32)) : BitVec 32) 0#32 = 1#1 ↔ t.val = 20 := by
  revert t; decide

theorem isLayer2 (t : Fin cfg1.N) : k1_cond6 (grid1.coords t) = 1#1 ↔ t.val / 10 = 2 := by
  revert t; decide

theorem idle1_7 (t : Fin cfg1.N) (ht : t.val < 20) : cfg1.idle 7 (cfg1.grid.coords t) = true := by
  show (!(k1_cond6 (grid1.coords t) == 1#1)) = true
  revert t; decide

theorem live1_7 (t : Fin cfg1.N) (ht : 20 ≤ t.val) : cfg1.idle 7 (cfg1.grid.coords t) = false := by
  show (!(k1_cond6 (grid1.coords t) == 1#1)) = false
  revert t; decide

theorem unflushed1_7 (t : Fin cfg1.N) (ht : t.val < 20) : (cfg1.win 7).flush t = false := by
  show win1_7.flush t = false
  rw [Pipeline.Window.flush_eq_flushF]
  revert t; decide

theorem before1_7 (c : Dev nD) (t : Fin cfg1.N) (ht : t.val < 20) (d) : (dat1 W c).before 7 t d = d := by
  rw [(dat1 W c).before_idle_run 7 (fun t => (cfg1.win 7).fetch_out rfl t) d t.val t le_rfl
    (fun j _ hj => ⟨idle1_7 j (by omega), unflushed1_7 j (by omega)⟩)]
  exact (dat1 W c).before_out_reset 7 rfl _ (Or.inl (Nat.sub_self _)) d

theorem post7_idle (c : Dev nD) (t : Fin cfg1.N) (ht : t.val < 20) :
    (iprop(∃ d, owns (c : Thread nD τ) (st1_7 t) fullShare d) : sProp 𝕄)
      ⊢ match cfg1.idle 7 (cfg1.grid.coords t) with
        | true =>
          match (cfg1.win 7).flush t with
          | false => iprop(∃ d, owns (c : Thread nD τ) (st1_7 t) fullShare ((dat1 W c).before 7 t d))
          | true => owns (c : Thread nD τ) (st1_7 t) fullShare ((dat1 W c).after 7 t)
        | false => owns (c : Thread nD τ) (st1_7 t) fullShare ((dat1 W c).after 7 t) := by
  rw [idle1_7 t ht, unflushed1_7 t ht]
  dsimp only
  iintro ⟨%d, H⟩
  iexists d
  rw [before1_7 W c t ht]
  iexact H

theorem post7_live (c : Dev nD) (t : Fin cfg1.N) (ht : 20 ≤ t.val) :
    (owns (c : Thread nD τ) (st1_7 t) fullShare ((ins W c).out (t.val % 10)) : sProp 𝕄)
      ⊢ match cfg1.idle 7 (cfg1.grid.coords t) with
        | true =>
          match (cfg1.win 7).flush t with
          | false => iprop(∃ d, owns (c : Thread nD τ) (st1_7 t) fullShare ((dat1 W c).before 7 t d))
          | true => owns (c : Thread nD τ) (st1_7 t) fullShare ((dat1 W c).after 7 t)
        | false => owns (c : Thread nD τ) (st1_7 t) fullShare ((dat1 W c).after 7 t) := by
  rw [live1_7 t ht]
  exact BI.Entails.refl _

theorem body1 (c : Dev nD) : BodyObligation (dat1 W c) (defs₀ (F := F)) Variants.none () Set.univ := fun t => by
  rw [bigSep_W1, bigSep_W1]
  rw [show (dat1 W c).Φ t.castSucc = inv1 W c t.val from rfl,
    show (dat1 W c).Φ t.succ = inv1 W c (t.val + 1) from rfl,
    show (dat1 W c).owesAt () t.succ = (dat1 W c).owesAt () t.castSucc from rfl]
  show iprop(_ ∗ _ ∗ _) ⊢ wp frame (wpE (defs₀ (F := F)) Variants.none c none) Set.univ (bodyAt1 t) _
  rw [show inv1 W c t.val = iprop((∃ s : St F, ⌜(ins W c).Inv t.val s⌝ ∗ scr1 c s) ∗ rest1 (F := F) c) from rfl]
  iintro ⟨⟨⟨%s, %hs, HS⟩, HR⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4, before1_5, before1_6]
  unfold scr1
  icases HS with ⟨S0, S1, S2, S3, S4, S5, S6⟩
  have hA := blk1_6 W c t
  have hN : t.val < 30 := t.isLt
  by_cases hl : t.val < 10
  · by_cases hf : t.val = 0
    · have hc : ((grid1.coords t) 1).val = t.val - 0 := (coords1_1 t).trans (by omega)
      have hA' : blk1 W c 6 t = (ins W c).A (t.val - 0) := by rw [hA]; congr 1; omega
      have h0 : t.val = 0 := by omega
      have hp : (ins W c).P0 (t.val - 0 + 1) ((s.quant0 (ins W c).s2).layer0 (grid1.coords t) (ins W c).b2 (ins W c).w3 (blk1 W c 6 t)) := by
        rw [hA', h0]; exact (ins W c).first0 (grid1.coords t) (hc.trans (by omega)) s
      have hs' : (ins W c).Inv (t.val + 1) ((s.quant0 (ins W c).s2).layer0 (grid1.coords t) (ins W c).b2 (ins W c).w3 (blk1 W c 6 t)) := In.Inv.of0 (by omega) hp
      iapply (run1_0_first (F := F) c (grid1.coords t) ((isFirst0 t).2 (by omega)) (fun h => absurd ((isFirst1 t).1 h) (by omega)) (fun h => absurd ((isFirst2 t).1 h) (by omega)) ((isLayer0 t).2 (by omega)) (fun h => absurd ((isLayer1 t).1 h) (by omega)) (fun h => absurd ((isLayer2 t).1 h) (by omega))
        (st1_0 t) _ (st1_1 t) _ (st1_2 t) _ (st1_3 t) _ (st1_4 t) _ (st1_5 t) _ (st1_6 t) _ (st1_7 t) _
        (Memref.whole cc1_scratch0) _ (Memref.whole cc1_scratch1) _ (Memref.whole cc1_scratch2) _ (Memref.whole cc1_scratch3) _
        (Memref.whole cc1_scratch4) _ (Memref.whole cc1_scratch5) _ (Memref.whole cc1_scratch6) _
        (blk1 W c 0 t) (blk1 W c 1 t) (blk1 W c 2 t) (blk1 W c 3 t) (blk1 W c 4 t) (blk1 W c 5 t) (blk1 W c 6 t) s)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [S0]; · iexact S0
      isplitl [S1]; · iexact S1
      isplitl [S2]; · iexact S2
      isplitl [S3]; · iexact S3
      isplitl [S4]; · iexact S4
      isplitl [S5]; · iexact S5
      isplitl [S6]; · iexact S6
      iintro ⟨H0, H1, H2, H3, H4, H5, H6, H7, S0, S1, S2, S3, S4, S5, S6⟩
      isplitl [S0 S1 S2 S3 S4 S5 S6 HR]
      · unfold inv1 scr1
        isplitr [HR]
        · iexists ((s.quant0 (ins W c).s2).layer0 (grid1.coords t) (ins W c).b2 (ins W c).w3 (blk1 W c 6 t))
          isplitr; · ipureintro; exact hs'
          isplitl [S0]; · iexact S0
          isplitl [S1]; · iexact S1
          isplitl [S2]; · iexact S2
          isplitl [S3]; · iexact S3
          isplitl [S4]; · iexact S4
          isplitl [S5]; · iexact S5
          iexact S6
        · iexact HR
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (post7_idle W c t (by omega))
      iexact H7
    · have hc : ((grid1.coords t) 1).val = t.val - 0 := (coords1_1 t).trans (by omega)
      have hA' : blk1 W c 6 t = (ins W c).A (t.val - 0) := by rw [hA]; congr 1; omega
      have hp : (ins W c).P0 (t.val - 0 + 1) (s.layer0 (grid1.coords t) (ins W c).b2 (ins W c).w3 (blk1 W c 6 t)) := by
        rw [hA']; exact (ins W c).later0 (grid1.coords t) _ hc (by omega) s (hs.l0 (by omega))
      have hs' : (ins W c).Inv (t.val + 1) (s.layer0 (grid1.coords t) (ins W c).b2 (ins W c).w3 (blk1 W c 6 t)) := In.Inv.of0 (by omega) hp
      iapply (run1_0_later (F := F) c (grid1.coords t) (fun h => absurd ((isFirst0 t).1 h) (by omega)) (fun h => absurd ((isFirst1 t).1 h) (by omega)) (fun h => absurd ((isFirst2 t).1 h) (by omega)) ((isLayer0 t).2 (by omega)) (fun h => absurd ((isLayer1 t).1 h) (by omega)) (fun h => absurd ((isLayer2 t).1 h) (by omega))
        (st1_0 t) _ (st1_1 t) _ (st1_2 t) _ (st1_3 t) _ (st1_4 t) _ (st1_5 t) _ (st1_6 t) _ (st1_7 t) _
        (Memref.whole cc1_scratch0) _ (Memref.whole cc1_scratch1) _ (Memref.whole cc1_scratch2) _ (Memref.whole cc1_scratch3) _
        (Memref.whole cc1_scratch4) _ (Memref.whole cc1_scratch5) _ (Memref.whole cc1_scratch6) _
        (blk1 W c 0 t) (blk1 W c 1 t) (blk1 W c 2 t) (blk1 W c 3 t) (blk1 W c 4 t) (blk1 W c 5 t) (blk1 W c 6 t) s)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [S0]; · iexact S0
      isplitl [S1]; · iexact S1
      isplitl [S2]; · iexact S2
      isplitl [S3]; · iexact S3
      isplitl [S4]; · iexact S4
      isplitl [S5]; · iexact S5
      isplitl [S6]; · iexact S6
      iintro ⟨H0, H1, H2, H3, H4, H5, H6, H7, S0, S1, S2, S3, S4, S5, S6⟩
      isplitl [S0 S1 S2 S3 S4 S5 S6 HR]
      · unfold inv1 scr1
        isplitr [HR]
        · iexists (s.layer0 (grid1.coords t) (ins W c).b2 (ins W c).w3 (blk1 W c 6 t))
          isplitr; · ipureintro; exact hs'
          isplitl [S0]; · iexact S0
          isplitl [S1]; · iexact S1
          isplitl [S2]; · iexact S2
          isplitl [S3]; · iexact S3
          isplitl [S4]; · iexact S4
          isplitl [S5]; · iexact S5
          iexact S6
        · iexact HR
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (post7_idle W c t (by omega))
      iexact H7
  · by_cases hl' : t.val < 20
    · by_cases hf : t.val = 10
      · have hc : ((grid1.coords t) 1).val = t.val - 10 := (coords1_1 t).trans (by omega)
        have hA' : blk1 W c 6 t = (ins W c).A (t.val - 10) := by rw [hA]; congr 1; omega
        have h0 : t.val = 10 := by omega
        have hp : (ins W c).P1 (t.val - 10 + 1) (s.quant1.layer1 (grid1.coords t) (ins W c).b3 (ins W c).w4 (blk1 W c 6 t)) := by
          have h1 := (hs.l1 (by omega) (by omega)); rw [h0] at h1; rw [hA', h0]; exact (ins W c).first1 (grid1.coords t) (hc.trans (by omega)) s h1
        have hs' : (ins W c).Inv (t.val + 1) (s.quant1.layer1 (grid1.coords t) (ins W c).b3 (ins W c).w4 (blk1 W c 6 t)) := by have h2 := In.Inv.of1 (by omega) hp; rwa [show 10 + (t.val - 10) + 1 = t.val + 1 by omega] at h2
        iapply (run1_1_first (F := F) c (grid1.coords t) (fun h => absurd ((isFirst0 t).1 h) (by omega)) ((isFirst1 t).2 (by omega)) (fun h => absurd ((isFirst2 t).1 h) (by omega)) (fun h => absurd ((isLayer0 t).1 h) (by omega)) ((isLayer1 t).2 (by omega)) (fun h => absurd ((isLayer2 t).1 h) (by omega))
          (st1_0 t) _ (st1_1 t) _ (st1_2 t) _ (st1_3 t) _ (st1_4 t) _ (st1_5 t) _ (st1_6 t) _ (st1_7 t) _
          (Memref.whole cc1_scratch0) _ (Memref.whole cc1_scratch1) _ (Memref.whole cc1_scratch2) _ (Memref.whole cc1_scratch3) _
          (Memref.whole cc1_scratch4) _ (Memref.whole cc1_scratch5) _ (Memref.whole cc1_scratch6) _
          (blk1 W c 0 t) (blk1 W c 1 t) (blk1 W c 2 t) (blk1 W c 3 t) (blk1 W c 4 t) (blk1 W c 5 t) (blk1 W c 6 t) s)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [S0]; · iexact S0
        isplitl [S1]; · iexact S1
        isplitl [S2]; · iexact S2
        isplitl [S3]; · iexact S3
        isplitl [S4]; · iexact S4
        isplitl [S5]; · iexact S5
        isplitl [S6]; · iexact S6
        iintro ⟨H0, H1, H2, H3, H4, H5, H6, H7, S0, S1, S2, S3, S4, S5, S6⟩
        isplitl [S0 S1 S2 S3 S4 S5 S6 HR]
        · unfold inv1 scr1
          isplitr [HR]
          · iexists (s.quant1.layer1 (grid1.coords t) (ins W c).b3 (ins W c).w4 (blk1 W c 6 t))
            isplitr; · ipureintro; exact hs'
            isplitl [S0]; · iexact S0
            isplitl [S1]; · iexact S1
            isplitl [S2]; · iexact S2
            isplitl [S3]; · iexact S3
            isplitl [S4]; · iexact S4
            isplitl [S5]; · iexact S5
            iexact S6
          · iexact HR
        isplitl [Howes]; · iexact Howes
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (post7_idle W c t (by omega))
        iexact H7
      · have hc : ((grid1.coords t) 1).val = t.val - 10 := (coords1_1 t).trans (by omega)
        have hA' : blk1 W c 6 t = (ins W c).A (t.val - 10) := by rw [hA]; congr 1; omega
        have hp : (ins W c).P1 (t.val - 10 + 1) (s.layer1 (grid1.coords t) (ins W c).b3 (ins W c).w4 (blk1 W c 6 t)) := by
          rw [hA']; exact (ins W c).later1 (grid1.coords t) _ hc (by omega) s (hs.l1 (by omega) (by omega))
        have hs' : (ins W c).Inv (t.val + 1) (s.layer1 (grid1.coords t) (ins W c).b3 (ins W c).w4 (blk1 W c 6 t)) := by have h2 := In.Inv.of1 (by omega) hp; rwa [show 10 + (t.val - 10) + 1 = t.val + 1 by omega] at h2
        iapply (run1_1_later (F := F) c (grid1.coords t) (fun h => absurd ((isFirst0 t).1 h) (by omega)) (fun h => absurd ((isFirst1 t).1 h) (by omega)) (fun h => absurd ((isFirst2 t).1 h) (by omega)) (fun h => absurd ((isLayer0 t).1 h) (by omega)) ((isLayer1 t).2 (by omega)) (fun h => absurd ((isLayer2 t).1 h) (by omega))
          (st1_0 t) _ (st1_1 t) _ (st1_2 t) _ (st1_3 t) _ (st1_4 t) _ (st1_5 t) _ (st1_6 t) _ (st1_7 t) _
          (Memref.whole cc1_scratch0) _ (Memref.whole cc1_scratch1) _ (Memref.whole cc1_scratch2) _ (Memref.whole cc1_scratch3) _
          (Memref.whole cc1_scratch4) _ (Memref.whole cc1_scratch5) _ (Memref.whole cc1_scratch6) _
          (blk1 W c 0 t) (blk1 W c 1 t) (blk1 W c 2 t) (blk1 W c 3 t) (blk1 W c 4 t) (blk1 W c 5 t) (blk1 W c 6 t) s)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [S0]; · iexact S0
        isplitl [S1]; · iexact S1
        isplitl [S2]; · iexact S2
        isplitl [S3]; · iexact S3
        isplitl [S4]; · iexact S4
        isplitl [S5]; · iexact S5
        isplitl [S6]; · iexact S6
        iintro ⟨H0, H1, H2, H3, H4, H5, H6, H7, S0, S1, S2, S3, S4, S5, S6⟩
        isplitl [S0 S1 S2 S3 S4 S5 S6 HR]
        · unfold inv1 scr1
          isplitr [HR]
          · iexists (s.layer1 (grid1.coords t) (ins W c).b3 (ins W c).w4 (blk1 W c 6 t))
            isplitr; · ipureintro; exact hs'
            isplitl [S0]; · iexact S0
            isplitl [S1]; · iexact S1
            isplitl [S2]; · iexact S2
            isplitl [S3]; · iexact S3
            isplitl [S4]; · iexact S4
            isplitl [S5]; · iexact S5
            iexact S6
          · iexact HR
        isplitl [Howes]; · iexact Howes
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (post7_idle W c t (by omega))
        iexact H7
    · by_cases hf : t.val = 20
      · have hc : ((grid1.coords t) 1).val = t.val - 20 := (coords1_1 t).trans (by omega)
        have hA' : blk1 W c 6 t = (ins W c).A (t.val - 20) := by rw [hA]; congr 1; omega
        have h0 : t.val = 20 := by omega
        have hp : (ins W c).P2 (t.val - 20 + 1) s.quant2 ∧ St.final (ins W c).b4 (blk1 W c 6 t) s.quant2 = (ins W c).out (t.val - 20) := by
          have h1 := (hs.l2 (by omega)); rw [h0] at h1; rw [hA', h0]; exact (ins W c).first2 s h1
        have hs' : (ins W c).Inv (t.val + 1) s.quant2 := by have h2 := In.Inv.of2 hp.1; rwa [show 20 + (t.val - 20) + 1 = t.val + 1 by omega] at h2
        have ho : (ins W c).out (t.val % 10) = St.final (ins W c).b4 (blk1 W c 6 t) s.quant2 := by rw [hp.2]; congr 1; omega
        iapply (run1_2_first (F := F) c (grid1.coords t) (fun h => absurd ((isFirst0 t).1 h) (by omega)) (fun h => absurd ((isFirst1 t).1 h) (by omega)) ((isFirst2 t).2 (by omega)) (fun h => absurd ((isLayer0 t).1 h) (by omega)) (fun h => absurd ((isLayer1 t).1 h) (by omega)) ((isLayer2 t).2 (by omega))
          (st1_0 t) _ (st1_1 t) _ (st1_2 t) _ (st1_3 t) _ (st1_4 t) _ (st1_5 t) _ (st1_6 t) _ (st1_7 t) _
          (Memref.whole cc1_scratch0) _ (Memref.whole cc1_scratch1) _ (Memref.whole cc1_scratch2) _ (Memref.whole cc1_scratch3) _
          (Memref.whole cc1_scratch4) _ (Memref.whole cc1_scratch5) _ (Memref.whole cc1_scratch6) _
          (blk1 W c 0 t) (blk1 W c 1 t) (blk1 W c 2 t) (blk1 W c 3 t) (blk1 W c 4 t) (blk1 W c 5 t) (blk1 W c 6 t) s)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [S0]; · iexact S0
        isplitl [S1]; · iexact S1
        isplitl [S2]; · iexact S2
        isplitl [S3]; · iexact S3
        isplitl [S4]; · iexact S4
        isplitl [S5]; · iexact S5
        isplitl [S6]; · iexact S6
        iintro ⟨H0, H1, H2, H3, H4, H5, H6, H7, S0, S1, S2, S3, S4, S5, S6⟩
        isplitl [S0 S1 S2 S3 S4 S5 S6 HR]
        · unfold inv1 scr1
          isplitr [HR]
          · iexists s.quant2
            isplitr; · ipureintro; exact hs'
            isplitl [S0]; · iexact S0
            isplitl [S1]; · iexact S1
            isplitl [S2]; · iexact S2
            isplitl [S3]; · iexact S3
            isplitl [S4]; · iexact S4
            isplitl [S5]; · iexact S5
            iexact S6
          · iexact HR
        isplitl [Howes]; · iexact Howes
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (post7_live W c t (by omega))
        rw [ho]; iexact H7
      · have hc : ((grid1.coords t) 1).val = t.val - 20 := (coords1_1 t).trans (by omega)
        have hA' : blk1 W c 6 t = (ins W c).A (t.val - 20) := by rw [hA]; congr 1; omega
        have hp : (ins W c).P2 (t.val - 20 + 1) s ∧ St.final (ins W c).b4 (blk1 W c 6 t) s = (ins W c).out (t.val - 20) := by
          rw [hA']; exact (ins W c).later2 _ (by omega) s (hs.l2 (by omega))
        have hs' : (ins W c).Inv (t.val + 1) s := by have h2 := In.Inv.of2 hp.1; rwa [show 20 + (t.val - 20) + 1 = t.val + 1 by omega] at h2
        have ho : (ins W c).out (t.val % 10) = St.final (ins W c).b4 (blk1 W c 6 t) s := by rw [hp.2]; congr 1; omega
        iapply (run1_2_later (F := F) c (grid1.coords t) (fun h => absurd ((isFirst0 t).1 h) (by omega)) (fun h => absurd ((isFirst1 t).1 h) (by omega)) (fun h => absurd ((isFirst2 t).1 h) (by omega)) (fun h => absurd ((isLayer0 t).1 h) (by omega)) (fun h => absurd ((isLayer1 t).1 h) (by omega)) ((isLayer2 t).2 (by omega))
          (st1_0 t) _ (st1_1 t) _ (st1_2 t) _ (st1_3 t) _ (st1_4 t) _ (st1_5 t) _ (st1_6 t) _ (st1_7 t) _
          (Memref.whole cc1_scratch0) _ (Memref.whole cc1_scratch1) _ (Memref.whole cc1_scratch2) _ (Memref.whole cc1_scratch3) _
          (Memref.whole cc1_scratch4) _ (Memref.whole cc1_scratch5) _ (Memref.whole cc1_scratch6) _
          (blk1 W c 0 t) (blk1 W c 1 t) (blk1 W c 2 t) (blk1 W c 3 t) (blk1 W c 4 t) (blk1 W c 5 t) (blk1 W c 6 t) s)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [S0]; · iexact S0
        isplitl [S1]; · iexact S1
        isplitl [S2]; · iexact S2
        isplitl [S3]; · iexact S3
        isplitl [S4]; · iexact S4
        isplitl [S5]; · iexact S5
        isplitl [S6]; · iexact S6
        iintro ⟨H0, H1, H2, H3, H4, H5, H6, H7, S0, S1, S2, S3, S4, S5, S6⟩
        isplitl [S0 S1 S2 S3 S4 S5 S6 HR]
        · unfold inv1 scr1
          isplitr [HR]
          · iexists s
            isplitr; · ipureintro; exact hs'
            isplitl [S0]; · iexact S0
            isplitl [S1]; · iexact S1
            isplitl [S2]; · iexact S2
            isplitl [S3]; · iexact S3
            isplitl [S4]; · iexact S4
            isplitl [S5]; · iexact S5
            iexact S6
          · iexact HR
        isplitl [Howes]; · iexact Howes
        isplitl [H0]; · iexact H0
        isplitl [H1]; · iexact H1
        isplitl [H2]; · iexact H2
        isplitl [H3]; · iexact H3
        isplitl [H4]; · iexact H4
        isplitl [H5]; · iexact H5
        isplitl [H6]; · iexact H6
        iapply (post7_live W c t (by omega))
        rw [ho]; iexact H7

theorem entry1 (c : Dev nD) :
    iprop(Pipeline.scopedRest (Ix := Unit) (Name := ℕ) (U := Pipeline.UD sig nD τ) (Lvl := ℕ) (Val := Elt F) spec1 c ∗ BI.emp)
      ⊢ (dat1 W c).Φ 0 := by
  rw [scoped1, show (dat1 W c).Φ 0 = inv1 W c 0 from rfl]
  unfold inv1 scr1 someAt
  simp only [owns_whole]
  iintro ⟨⟨⟨%f0, S0⟩, ⟨%f1, S1⟩, ⟨%f2, S2⟩, ⟨%f3, S3⟩, ⟨%f4, S4⟩, ⟨%f5, S5⟩, ⟨%f6, S6⟩, HR⟩, -⟩
  isplitr [HR]
  · iexists (⟨f0, f1, f2, f3, f4, f5, f6⟩ : St F)
    isplitr; · ipureintro; exact (ins W c).inv_zero _
    isplitl [S0]; · iexact S0
    isplitl [S1]; · iexact S1
    isplitl [S2]; · iexact S2
    isplitl [S3]; · iexact S3
    isplitl [S4]; · iexact S4
    isplitl [S5]; · iexact S5
    iexact S6
  iexact HR

theorem exit1 (c : Dev nD) :
    (dat1 W c).Φ (Fin.last cfg1.N)
      ⊢ iprop(Pipeline.scopedRest (Ix := Unit) (Name := ℕ) (U := Pipeline.UD sig nD τ) (Lvl := ℕ) (Val := Elt F) spec1 c ∗ BI.emp) := by
  rw [scoped1, show (dat1 W c).Φ (Fin.last cfg1.N) = inv1 W c cfg1.N from rfl]
  unfold inv1 scr1 someAt
  simp only [owns_whole]
  iintro ⟨⟨%s, -, S0, S1, S2, S3, S4, S5, S6⟩, HR⟩
  isplitl [S0 S1 S2 S3 S4 S5 S6 HR]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexact HR
  iempintro

end Cert.KernelIdeal.Hand

end
-- ==== Proof.KernelIdeal.Run.lean ====
module

public import proofs.«01_k».proof.Proof.KernelIdeal.Region1
public import proofs.«01_k».proof.Proof.Gen.KernelIdeal.Regions

/-!
The whole program run: the host's operations and the two regions one after the other.  At the end the result's array
is what the second region's write-backs leave, the arguments are as they were and every counter is at zero.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg afterRegion)

variable {F : FTy → Type} [FloatOps F] [Named F]

local notation "𝕄" => MT nD τ sig Unit (Elt F) ℕ (Pipeline.UD sig nD τ) ℕ

variable (m : (ℓ : Loc nD τ sig) → Buf (Elt F) ℓ)

/-- The staging cells of a core carry one level; nothing is owed anywhere. -/
abbrev lvls : GSem nD τ sig → Finset Unit := fun g => if g.1.2 = .tc then {()} else ∅
abbrev lv0 : GSem nD τ sig → Unit → ℕ := fun _ _ => 0

/-- What the first region leaves in its arrays. -/
def outs0 : Outs (F := F) := fun _ r c => afterRegion (dat0 (V1 m) c) (V1 m c) (Proc.devRef .tc r)

/-- What the regions leave in their arrays. -/
def outs : Outs (F := F) := fun k r c =>
  if k = 4 then afterRegion (dat1 (V3 m (outs0 m)) c) (V3 m (outs0 m) c) (Proc.devRef .tc r) else outs0 m k r c

theorem V3_outs : V3 m (outs m) = V3 m (outs0 m) := rfl

/-- The two regions' proof data. -/
def pdats : (p : Fin 2) → (c : Dev nD) → Dat τ (Elt F) Unit ℕ (Pipeline.UD sig nD τ) ℕ (cfgs p) c
  | ⟨0, _⟩ => fun c => dat0 (V1 m) c
  | ⟨1, _⟩ => fun c => dat1 (V3 m (outs m)) c

theorem V2_at1 (o : Outs (F := F)) (c : Dev nD) : V2 m o c main_v2_1 = o 2 main_v2_1 c := by
  unfold V2; exact Function.update_self _ _ _

theorem V2_at0 (o : Outs (F := F)) (c : Dev nD) : V2 m o c main_v2_0 = o 2 main_v2_0 c := by
  unfold V2
  rw [Function.update_of_ne (StableHlo.devRef_ne_of_ne (by decide))]
  exact Function.update_self _ _ _

theorem V4_at (o : Outs (F := F)) (c : Dev nD) : V4 m o c main_v8 = o 4 main_v8 c := by
  unfold V4; exact Function.update_self _ _ _

theorem after0 (c : Dev nD) : ∀ b ∈ Pipeline.ucRefs τ sig, afterRegion (dat0 (V1 m) c) (V1 m c) b = V2 m (outs m) c b := by
  intro b hb
  obtain ⟨r, -, rfl⟩ := Finset.mem_map.mp (Finset.mem_filter.mp hb).1
  by_cases h1 : r = main_v2_1
  · subst h1; exact (V2_at1 m (outs m) c).symm
  by_cases h0 : r = main_v2_0
  · subst h0
    exact (V2_at0 m (outs m) c).symm
  refine (Pipeline.afterRegion_keeps (dat0 (V1 m) c) (V1 m c) (launch0).win.arr_inj (fun _ => rfl) r fun w hw => ?_).trans
    (V2_of m (outs m) c r (by intro h; rcases List.mem_cons.mp h with h | h; exacts [h0 h, h1 (List.mem_singleton.mp h)])).symm
  revert hw
  match w with
  | ⟨0, _⟩ => exact fun _ => rfl
  | ⟨1, _⟩ => exact fun _ => rfl
  | ⟨2, _⟩ => exact fun _ => rfl
  | ⟨3, _⟩ => exact fun _ => rfl
  | ⟨4, _⟩ => exact fun _ => rfl
  | ⟨5, _⟩ => exact fun hw => absurd hw.symm h0
  | ⟨6, _⟩ => exact fun hw => absurd hw.symm h1

theorem after1 (c : Dev nD) : ∀ b ∈ Pipeline.ucRefs τ sig,
    afterRegion (dat1 (V3 m (outs m)) c) (V3 m (outs m) c) b = V4 m (outs m) c b := by
  intro b hb
  obtain ⟨r, -, rfl⟩ := Finset.mem_map.mp (Finset.mem_filter.mp hb).1
  by_cases h1 : r = main_v8
  · subst h1; exact (V4_at m (outs m) c).symm
  refine (Pipeline.afterRegion_keeps (dat1 (V3 m (outs m)) c) (V3 m (outs m) c) (launch1).win.arr_inj (fun _ => rfl) r fun w hw => ?_).trans
    (V4_of m (outs m) c r (by intro h; exact h1 (List.mem_singleton.mp h))).symm
  revert hw
  match w with
  | ⟨0, _⟩ => exact fun _ => rfl
  | ⟨1, _⟩ => exact fun _ => rfl
  | ⟨2, _⟩ => exact fun _ => rfl
  | ⟨3, _⟩ => exact fun _ => rfl
  | ⟨4, _⟩ => exact fun _ => rfl
  | ⟨5, _⟩ => exact fun _ => rfl
  | ⟨6, _⟩ => exact fun _ => rfl
  | ⟨7, _⟩ => exact fun hw => absurd hw.symm h1

/-- What a core owes between the segments: nothing. -/
def owesNone (c : Dev nD) : sProp 𝕄 := iprop(∃ Wd, owes (c : Thread nD τ) (0 : CellTallies nD τ sig Unit) Wd)

theorem pad (A : sProp 𝕄) (c : Dev nD) : iprop(A ∗ owesNone (F := F) c)
    ⊢ iprop(A ∗ ((∃ Wd, owes (c : Thread nD τ) (0 : CellTallies nD τ sig Unit) Wd) ∗ BI.emp ∗ BI.emp)) := by
  unfold owesNone
  iintro ⟨H, HO⟩
  isplitl [H]; · iexact H
  isplitl [HO]; · iexact HO
  isplitr <;> iempintro

theorem unpad (A : sProp 𝕄) (c : Dev nD) :
    iprop(A ∗ ((∃ Wd, owes (c : Thread nD τ) (0 : CellTallies nD τ sig Unit) Wd) ∗ BI.emp ∗ BI.emp)) ⊢ iprop(A ∗ owesNone (F := F) c) := by
  unfold owesNone
  iintro ⟨H, HO, -⟩
  isplitl [H]; · iexact H
  iexact HO

set_option backward.isDefEq.respectTransparency.types false in
/-- The first region, entered from the buffers at `V1`. -/
def reg0 : RegionSeg (pcfgs (F := F)) adm (pdats m) () defs₀ Variants.none lvls lv0 0 :=
  RegionSeg.ofHeldIn (pcfgs (F := F)) adm (pdats m) () defs₀ Variants.none lvls lv0 0 (fun _ => 0) (Pipeline.ucRefs τ sig)
    (fun _ => BI.emp) (fun _ => BI.emp) (Pipeline.LaunchFacts.toP launch0) rfl (fun c => (body0 (V1 m) c).loose) (fun _ _ => rfl) (fun _ => rfl)
    (fun c => (pdats m 0 c).share_full fun _ => rfl) (fun c => entry0 (V1 m) c) (fun c => exit0 (V1 m) c) (fun _ => 0)
    ⟨fun _ _ _ => Finset.mem_singleton_self _, fun _ _ _ => le_rfl, fun _ _ _ h => absurd h (Nat.lt_irrefl 0)⟩
    (fun _ => BI.emp) (V1 m) (fun _ _ => rfl)

set_option backward.isDefEq.respectTransparency.types false in
/-- The second region, entered from the buffers at `V3`. -/
def reg1 : RegionSeg (pcfgs (F := F)) adm (pdats m) () defs₀ Variants.none lvls lv0 1 :=
  RegionSeg.ofHeldIn (pcfgs (F := F)) adm (pdats m) () defs₀ Variants.none lvls lv0 1 (fun _ => 0) (Pipeline.ucRefs τ sig)
    (fun _ => BI.emp) (fun _ => BI.emp) (Pipeline.LaunchFacts.toP launch1) rfl (fun c => (body1 (V3 m (outs m)) c).loose) (fun _ _ => rfl) (fun _ => rfl)
    (fun c => (pdats m 1 c).share_full fun _ => rfl) (fun c => entry1 (V3 m (outs m)) c) (fun c => exit1 (V3 m (outs m)) c) (fun _ => 0)
    ⟨fun _ _ _ => Finset.mem_singleton_self _, fun _ _ _ => le_rfl, fun _ _ _ h => absurd h (Nat.lt_irrefl 0)⟩
    (fun _ => BI.emp) (V3 m (outs m)) (fun _ _ => rfl)

set_option backward.isDefEq.respectTransparency.types false in
theorem pre0 (c : Dev nD) : iprop(StableHlo.held (c : Thread nD τ) (Pipeline.ucRefs τ sig) (V1 m c) ∗ owesNone (F := F) c) ⊢ (reg0 m).pre c := by
  unfold reg0
  refine BI.Entails.trans ?_ (RegionSeg.ofHeldIn_pre (pcs := pcfgs (F := F)) (a := adm) (pdats := pdats m) (ι := ()) (defs₀ := defs₀) (𝒱₀ := Variants.none) (L := lvls) (lv := lv0)
    (p := 0) (D := fun _ => 0) (Pipeline.arrRefs_sub_ucRefs spec0 fun w => by revert w; decide) c)
  exact pad _ c

set_option backward.isDefEq.respectTransparency.types false in
theorem pre1 (c : Dev nD) : iprop(StableHlo.held (c : Thread nD τ) (Pipeline.ucRefs τ sig) (V3 m (outs m) c) ∗ owesNone (F := F) c) ⊢ (reg1 m).pre c := by
  unfold reg1
  refine BI.Entails.trans ?_ (RegionSeg.ofHeldIn_pre (pcs := pcfgs (F := F)) (a := adm) (pdats := pdats m) (ι := ()) (defs₀ := defs₀) (𝒱₀ := Variants.none) (L := lvls) (lv := lv0)
    (p := 1) (D := fun _ => 0) (Pipeline.arrRefs_sub_ucRefs spec1 fun w => by revert w; decide) c)
  exact pad _ c

set_option backward.isDefEq.respectTransparency.types false in
theorem post0 (c : Dev nD) : (reg0 m).post c ⊢ iprop(StableHlo.held (c : Thread nD τ) (Pipeline.ucRefs τ sig) (V2 m (outs m) c) ∗ owesNone (F := F) c) := by
  unfold reg0
  refine BI.Entails.trans (RegionSeg.ofHeldIn_post (pcs := pcfgs (F := F)) (a := adm) (pdats := pdats m) (ι := ()) (defs₀ := defs₀) (𝒱₀ := Variants.none) (L := lvls) (lv := lv0)
    (p := 0) (D := fun _ => 0) (Pipeline.arrRefs_sub_ucRefs spec0 fun w => by revert w; decide) c) ?_
  rw [show StableHlo.held (c : Thread nD τ) (Pipeline.ucRefs τ sig) (V2 m (outs m) c)
      = StableHlo.held (c : Thread nD τ) (Pipeline.ucRefs τ sig) (afterRegion (pdats m 0 c) (V1 m c)) from
    StableHlo.held_congr (c : Thread nD τ) fun b hb => (after0 m c b hb).symm]
  exact unpad _ c

set_option backward.isDefEq.respectTransparency.types false in
theorem post1 (c : Dev nD) : (reg1 m).post c ⊢ iprop(StableHlo.held (c : Thread nD τ) (Pipeline.ucRefs τ sig) (V4 m (outs m) c) ∗ owesNone (F := F) c) := by
  unfold reg1
  refine BI.Entails.trans (RegionSeg.ofHeldIn_post (pcs := pcfgs (F := F)) (a := adm) (pdats := pdats m) (ι := ()) (defs₀ := defs₀) (𝒱₀ := Variants.none) (L := lvls) (lv := lv0)
    (p := 1) (D := fun _ => 0) (Pipeline.arrRefs_sub_ucRefs spec1 fun w => by revert w; decide) c) ?_
  rw [show StableHlo.held (c : Thread nD τ) (Pipeline.ucRefs τ sig) (V4 m (outs m) c)
      = StableHlo.held (c : Thread nD τ) (Pipeline.ucRefs τ sig) (afterRegion (pdats m 1 c) (V3 m (outs m) c)) from
    StableHlo.held_congr (c : Thread nD τ) fun b hb => (after1 m c b hb).symm]
  exact unpad _ c

/-- Nothing but the cores' empty dues rides from segment to segment. -/
abbrev ride : Fin 3 → Dev nD → sProp 𝕄 := fun _ c => owesNone (F := F) c

theorem ride_start (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ∗ levAts lvls lv0)
      ⊢ (|={Set.univ}=> bigSep Finset.univ (ride (F := F) 0) : sProp 𝕄) := by
  have h : (bigSep Finset.univ fun c : Dev nD => iprop(unscopedSems0 c ∗ owes (c : Thread nD τ) (0 : CellTallies nD τ sig Unit) ∅
        ∗ Pipeline.launchCred (fun _ => 0) c ∗ prngReg c (ρ c) ∗ BI.emp))
      ⊢ (bigSep Finset.univ (ride (F := F) 0) : sProp 𝕄) :=
    bigSep_mono fun c _ => by
      show _ ⊢ owesNone (F := F) c
      unfold owesNone
      iintro ⟨-, H, -⟩
      iexists _; iexact H
  iintro ⟨H, -⟩
  ihave H' := h $$ H
  imodintro
  iexact H'

/-- What a final memory holds on core `c`: the arguments as launched, the result as the second region left it. -/
def Done (s : MemSt nD τ sig (Elt F)) (c : Dev nD) : Prop :=
  s.mem ((c.tc : Thread nD τ).loc main_v8) = V4 m (outs m) c main_v8
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)

set_option backward.isDefEq.respectTransparency.types false in
/-- Every weakly fair execution ends, in a memory that is `Done` on every core, with every counter at zero. -/
theorem run (ρ : Dev nD → PrngReg) :
    θ_run defs (onTc (τ := τ) (main (F := F))) ⟨m, fun _ => 0, ρ⟩ (fun r => (∀ c : Dev nD, Done m r.2 c) ∧ r.2.sem = fun _ => 0) := by
  refine Pipeline.θ_run_regions_kit_dev_sems (pcfgs (F := F)) adm (pdats m) () cellOf_inj embL defs₀ Variants.none lvls lv0 m ρ main
    (segs m (outs m) Variants.none lvls lv0 ride () (pdats m) (reg0 m) (reg1 m))
    (fun c Q => by
      rewrite [main_chain c, Pipeline.Seg.run_eq_chain,
        show (segs m (outs m) Variants.none lvls lv0 ride () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide) (fun _ => 0)
    (fun g hg => if_neg hg) (fun _ => BI.emp)
    (initOf (Pipeline.cells cfgs cellOf_inj) (Pipeline.launchToks cfgs cellOf_inj), 1) ?_
    (T₀ := fun c => iprop(StableHlo.held (c : Thread nD τ) (Pipeline.ucRefs τ sig) (V0 m c) ∗ ride (F := F) 0 c))
    (Tₙ := fun c => StableHlo.held (c : Thread nD τ) (Pipeline.ucRefs τ sig) (V4 m (outs m) c))
    (hch := fun c => ⟨.rfl, pre0 m c, post0 m c, pre1 m c, post1 m c⟩)
    (hinit := ?_) (QY := fun c s => Done m s c)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    rw [BI.bigSep_emp_const]
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ BI.emp)) : sProp 𝕄) := by
      rw [← bigSep_sep']
      exact bigSep_mono fun c _ => by
        rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (ride_start (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = V4 m (outs m) c r := fun r hr =>
        h (Proc.devRef .tc r) (Finset.mem_filter.mpr ⟨StableHlo.devRef_mem_tcRefs r, by
          intro hs; exact absurd (hr.symm.trans hs) Bool.false_ne_true⟩)
      exact ⟨hr main_v8 rfl, (hr main_arg0 rfl).trans (V4_main_arg0 m (outs m) c), (hr main_arg1 rfl).trans (V4_main_arg1 m (outs m) c),
        (hr main_arg2 rfl).trans (V4_main_arg2 m (outs m) c), (hr main_arg3 rfl).trans (V4_main_arg3 m (outs m) c),
        (hr main_arg4 rfl).trans (V4_main_arg4 m (outs m) c), (hr main_arg5 rfl).trans (V4_main_arg5 m (outs m) c),
        (hr main_arg6 rfl).trans (V4_main_arg6 m (outs m) c), (hr main_arg7 rfl).trans (V4_main_arg7 m (outs m) c),
        (hr main_arg8 rfl).trans (V4_main_arg8 m (outs m) c), (hr main_arg9 rfl).trans (V4_main_arg9 m (outs m) c)⟩
    · iexact HSI

/-- What the second region's write-backs leave in the result's array. -/
theorem result_eq (c : Dev nD) : V4 m (outs m) c main_v8 = (dat1 (V3 m (outs m)) c).arrAt 7 cfg1.N :=
  (V4_at m (outs m) c).trans (Pipeline.afterRegion_arr (dat1 (V3 m (outs m)) c) (V3 m (outs m) c) (launch1).win.arr_inj 7)

/-- What the first region's write-backs leave in its two arrays. -/
theorem mid0_eq (c : Dev nD) : V2 m (outs m) c main_v2_0 = (dat0 (V1 m) c).arrAt 5 cfg0.N :=
  (V2_at0 m (outs m) c).trans
    (Pipeline.afterRegion_arr (dat0 (V1 m) c) (V1 m c) (launch0).win.arr_inj 5)

theorem mid1_eq (c : Dev nD) : V2 m (outs m) c main_v2_1 = (dat0 (V1 m) c).arrAt 6 cfg0.N :=
  (V2_at1 m (outs m) c).trans (Pipeline.afterRegion_arr (dat0 (V1 m) c) (V1 m c) (launch0).win.arr_inj 6)

end Cert.KernelIdeal.Hand

end
-- ==== Proof.Net.lean ====
module

public import Idealize.ShloMosaic.Lib.Pointwise
public import Idealize.ShloMosaic.Lib.IdealHost

/-! The arithmetic behind the network, over the extended reals: one graph layer on one row of the
adjacency matrix, the log of the row's softmax, and the two facts about scaling a table before a
product and unscaling after it. -/

@[expose] public section

open Idealize.ShloMosaic

namespace Cert.Net

/-- The extended real is a real number. -/
def IsR (x : EReal) : Prop := ∃ r : ℝ, x = (r : EReal)

theorem IsR.add {x y : EReal} : IsR x → IsR y → IsR (x + y)
  | ⟨a, ha⟩, ⟨b, hb⟩ => ⟨a + b, by rw [ha, hb, EReal.coe_add]⟩

theorem IsR.mul {x y : EReal} : IsR x → IsR y → IsR (x * y)
  | ⟨a, ha⟩, ⟨b, hb⟩ => ⟨a * b, by rw [ha, hb, EReal.coe_mul]⟩

theorem IsR.neg {x : EReal} : IsR x → IsR (-x)
  | ⟨a, ha⟩ => ⟨-a, by rw [ha, EReal.coe_neg]⟩

theorem IsR.sup {x y : EReal} (hx : IsR x) (hy : IsR y) : IsR (max x y) := by
  rcases max_choice x y with h | h <;> rw [h] <;> assumption

theorem IsR.zero : IsR 0 := ⟨0, by simp⟩

theorem IsR.sum {ι : Type*} (s : Finset ι) (f : ι → EReal) (h : ∀ i, IsR (f i)) :
    IsR (∑ i ∈ s, f i) := by
  classical
  induction s using Finset.induction_on with
  | empty => simpa using IsR.zero
  | insert a s ha ih => rw [Finset.sum_insert ha]; exact (h a).add ih

theorem IsR.abs {x : EReal} (h : IsR x) : IsR (FloatOps.absf (F := Ideal) (φ := .f32) x) :=
  IsR.sup h h.neg

theorem isR_of_ne {x : EReal} (h1 : x ≠ ⊤) (h2 : x ≠ ⊥) : IsR x :=
  ⟨x.toReal, (EReal.coe_toReal h1 h2).symm⟩

theorem IsR.ne_top {x : EReal} : IsR x → x ≠ ⊤
  | ⟨_, h⟩ => by rw [h]; exact EReal.coe_ne_top _

theorem IsR.ne_bot {x : EReal} : IsR x → x ≠ ⊥
  | ⟨_, h⟩ => by rw [h]; exact EReal.coe_ne_bot _

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_ne_top {ι : Type*} (s : Finset ι) (b : EReal) (f : ι → EReal) (hb : b ≠ ⊤)
    (hf : ∀ i, f i ≠ ⊤) : s.fold max b f ≠ ⊤ := by
  classical
  induction s using Finset.induction_on with
  | empty => simpa using hb
  | insert a s ha ih =>
      rw [Finset.fold_insert ha]
      rcases max_choice (f a) (s.fold max b f) with h | h <;> rw [h]
      · exact hf a
      · exact ih

/-- A real number joined with anything below the top is a real number. -/
theorem IsR.sup_left {x y : EReal} (hx : IsR x) (hy : y ≠ ⊤) : IsR (max x y) := by
  refine isR_of_ne ?_ ?_
  · rcases max_choice x y with h | h <;> rw [h]
    · exact hx.ne_top
    · exact hy
  · intro h
    exact hx.ne_bot (le_bot_iff.1 (h ▸ le_max_left x y))

theorem ofBits_negInf : Ideal.ofBits .f32 4286578688#32 = ⊥ := by
  simp [Ideal.ofBits, Ideal.ieee]

theorem ofBits_448 : Ideal.ofBits .f32 1138753536#32 = ((448 : ℝ) : EReal) := by
  simp [Ideal.ofBits, Ideal.ieee]
  rw [← EReal.coe_mul]
  norm_num

theorem ofBits_tiny : ∃ r : ℝ, 0 < r ∧ Ideal.ofBits .f32 228737632#32 = (r : EReal) := by
  refine ⟨10633824 * (1 / 2 ^ 123), by positivity, ?_⟩
  simp [Ideal.ofBits, Ideal.ieee]

/-- A running largest value, floored by a positive real number, is a positive real number. -/
theorem pos_floor {x : EReal} (hx : x ≠ ⊤) :
    ∃ r : ℝ, 0 < r ∧ max x (Ideal.ofBits .f32 228737632#32) = (r : EReal) := by
  obtain ⟨t, ht, e⟩ := ofBits_tiny
  obtain ⟨r, hr⟩ := IsR.sup_left (x := Ideal.ofBits .f32 228737632#32) ⟨t, e⟩ hx
  refine ⟨r, ?_, by rw [max_comm, hr]⟩
  have h : ((t : ℝ) : EReal) ≤ (r : EReal) := by
    rw [← hr, e]; exact le_max_left _ _
  exact lt_of_lt_of_le ht (EReal.coe_le_coe_iff.1 h)

theorem unscale (r : ℝ) (h : 0 < r) (x : ℝ) :
    (x * (448 * (1 / r))) * (r * (1 / 448)) = x := by
  field_simp

theorem div448 {r : ℝ} (h : 0 < r) :
    Ideal.div (Ideal.ofBits .f32 1138753536#32) (r : EReal) = ((448 * (1 / r) : ℝ) : EReal) := by
  rw [ofBits_448, Ideal.div_coe h.ne', EReal.coe_mul]

/-- Scaling every entry of the right factor and unscaling the product changes nothing. -/
theorem scaled_dot {ι : Type*} [Fintype ι] (A S : ι → EReal) (hA : ∀ k, IsR (A k))
    (hS : ∀ k, IsR (S k)) {r : ℝ} (h : 0 < r) :
    (∑ k, A k * (S k * Ideal.div (Ideal.ofBits .f32 1138753536#32) (r : EReal)))
      * ((r : EReal) * ((1 / 448 : ℝ) : EReal)) = ∑ k, A k * S k := by
  choose a ha using hA
  choose s hs using hS
  simp only [ha, hs, div448 h, ← EReal.coe_mul, ← coe_sum]
  refine congrArg _ ?_
  rw [Finset.sum_mul]
  refine Finset.sum_congr rfl fun k _ => ?_
  field_simp

/-- A column's entries less their scaled and unscaled copies sum to zero. -/
theorem resid_sum {ι : Type*} [Fintype ι] (S : ι → EReal) (hS : ∀ k, IsR (S k)) {r : ℝ}
    (h : 0 < r) :
    (∑ k, (S k - (r : EReal) * ((1 / 448 : ℝ) : EReal)
      * (S k * Ideal.div (Ideal.ofBits .f32 1138753536#32) (r : EReal)))) = 0 := by
  refine Finset.sum_eq_zero fun k _ => ?_
  obtain ⟨s, hs⟩ := hS k
  rw [hs, div448 h, ← EReal.coe_mul, ← EReal.coe_mul, ← EReal.coe_mul, ← EReal.coe_sub]
  rw [show s - r * (1 / 448) * (s * (448 * (1 / r))) = 0 by field_simp; ring, EReal.coe_zero]

/-- The same of a column's sum. -/
theorem resid_total {ι : Type*} [Fintype ι] (S : ι → EReal) (hS : ∀ k, IsR (S k)) {r : ℝ}
    (h : 0 < r) :
    (∑ k, S k) - (r : EReal) * ((1 / 448 : ℝ) : EReal)
      * (∑ k, S k * Ideal.div (Ideal.ofBits .f32 1138753536#32) (r : EReal)) = 0 := by
  choose s hs using hS
  simp only [hs, div448 h, ← EReal.coe_mul, ← coe_sum, ← EReal.coe_sub]
  rw [← Finset.sum_mul, show (∑ k, s k) - r * (1 / 448) * ((∑ k, s k) * (448 * (1 / r))) = 0 by
    field_simp; ring, EReal.coe_zero]

/-- One graph layer on one row of the adjacency matrix: the row times the support, plus the bias,
cut off below at zero. -/
noncomputable def layer {N M : ℕ} (a : Fin N → EReal) (S : Fin N → Fin M → EReal) (b : Fin M → EReal)
    (j : Fin M) : EReal :=
  max ((∑ k, a k * S k j) + b j) 0

/-- A row times a matrix. -/
noncomputable def vm {N M : ℕ} (a : Fin N → EReal) (S : Fin N → Fin M → EReal) (j : Fin M) : EReal :=
  ∑ k, a k * S k j

/-- The log of a row's softmax, with the row's largest entry taken off first. -/
noncomputable def logSoftmax {M : ℕ} (x : Fin M → EReal) (j : Fin M) : EReal :=
  (x j - Finset.univ.fold max ⊥ x)
    - Ideal.log (∑ k, Ideal.exp (x k - Finset.univ.fold max ⊥ x))

/-- The second layer's table: the features times the first weights, through the first graph layer,
times the second weights. -/
noncomputable def table0 (X : Fin 10000 → Fin 128 → EReal) (A : Fin 10000 → Fin 10000 → EReal)
    (W1 : Fin 128 → Fin 256 → EReal) (b1 : Fin 256 → EReal) (W2 : Fin 256 → Fin 128 → EReal)
    (i : Fin 10000) : Fin 128 → EReal :=
  vm (layer (A i) (fun k => vm (X k) W1) b1) W2

/-- The next layer's table from a layer's. -/
noncomputable def next {N M : ℕ} (A : Fin 10000 → Fin 10000 → EReal) (T : Fin 10000 → Fin N → EReal)
    (b : Fin N → EReal) (W : Fin N → Fin M → EReal) (i : Fin 10000) : Fin M → EReal :=
  vm (layer (A i) T b) W

/-- The whole network: four graph layers and the log of the softmax of every row. -/
noncomputable def net (X : Fin 10000 → Fin 128 → EReal) (A : Fin 10000 → Fin 10000 → EReal)
    (W1 : Fin 128 → Fin 256 → EReal) (b1 : Fin 256 → EReal) (W2 : Fin 256 → Fin 128 → EReal)
    (b2 : Fin 128 → EReal) (W3 : Fin 128 → Fin 64 → EReal) (b3 : Fin 64 → EReal)
    (W4 : Fin 64 → Fin 40 → EReal) (b4 : Fin 40 → EReal) (i : Fin 10000) : Fin 40 → EReal :=
  logSoftmax (layer (A i) (next A (next A (table0 X A W1 b1 W2) b2 W3) b3 W4) b4)

theorem IsR.vm {N M : ℕ} {a : Fin N → EReal} {S : Fin N → Fin M → EReal} (ha : ∀ k, IsR (a k))
    (hS : ∀ k j, IsR (S k j)) (j : Fin M) : IsR (vm a S j) :=
  IsR.sum _ _ fun k => (ha k).mul (hS k j)

theorem IsR.layer {N M : ℕ} {a : Fin N → EReal} {S : Fin N → Fin M → EReal} {b : Fin M → EReal}
    (ha : ∀ k, IsR (a k)) (hS : ∀ k j, IsR (S k j)) (hb : ∀ j, IsR (b j)) (j : Fin M) :
    IsR (layer a S b j) :=
  ((IsR.vm ha hS j).add (hb j)).sup IsR.zero

/-- The layer as the kernel computes it: scaled table, unscaling factor, a correction that is
zero. -/
theorem kernel_layer {N M : ℕ} (a : Fin N → EReal) (S : Fin N → Fin M → EReal) (b : Fin M → EReal)
    (ha : ∀ k, IsR (a k)) (hS : ∀ k j, IsR (S k j)) {r : ℝ} (h : 0 < r) (j : Fin M) :
    max ((∑ k, a k * (S k j * Ideal.div (Ideal.ofBits .f32 1138753536#32) (r : EReal)))
      * ((r : EReal) * ((1 / 448 : ℝ) : EReal)) + 0 + b j) 0 = layer a S b j := by
  rw [scaled_dot a (fun k => S k j) ha (fun k => hS k j) h, add_zero]; rfl

theorem max_bot_left (x : EReal) : max ⊥ x = x := max_eq_right bot_le

/-- Ten blocks of a thousand terms are ten thousand terms. -/
theorem sum_blocks {β : Type*} [AddCommMonoid β] (f : ℕ → Fin 1000 → β) :
    (∑ n ∈ Finset.range 10, ∑ x, f n x)
      = ∑ i : Fin 10000, f (i.val / 1000) ⟨i.val % 1000, Nat.mod_lt _ (by decide)⟩ := by
  rw [Finset.sum_range, ← Fintype.sum_prod_type' (fun (n : Fin 10) x => f n.val x)]
  refine Fintype.sum_equiv (finProdFinEquiv (m := 10) (n := 1000)) _ _ ?_
  rintro ⟨n, x⟩
  have h1 : (finProdFinEquiv (n, x)).val = x.val + 1000 * n.val := rfl
  have h2 : (x.val + 1000 * n.val) / 1000 = n.val := by have := x.isLt; omega
  have h3 : (x.val + 1000 * n.val) % 1000 = x.val := by have := x.isLt; omega
  simp only [h1, h2, h3, Fin.eta]

end Cert.Net
-- ==== Proof.KernelIdeal.Payload.lean ====
module

public import proofs.«01_k».proof.Proof.KernelIdeal.Closed
public import proofs.«01_k».proof.Proof.Net

/-! The values the kernel's bodies store, read at one index over the extended reals. -/

@[expose] public section

set_option maxRecDepth 16384

namespace Cert.KernelIdeal.Hand

open Idealize.ShloMosaic
open Cert.KernelIdeal Cert.KernelIdeal.Gen

/-- The factor that brings a table's largest entry to the narrow type's largest number. -/
noncomputable abbrev up (z : EReal) : EReal := Ideal.div (Ideal.ofBits .f32 1138753536#32) z

/-- The factor that undoes it. -/
noncomputable abbrev down (z : EReal) : EReal := z * ((1 / 448 : ℝ) : EReal)

theorem inv_448 : Named.named (F := Ideal) κ "inv_448" (φ := .f32) 991054117#32
    = ((1 / 448 : ℝ) : EReal) :=
  IdealRules.named_const.ideal_named_scalar _ _ _ _ rfl

theorem k0_pay1_at (a : Vec Ideal S10000x128 .f32) (b : Vec Ideal S128x256 .f32) (i : Fin 10000)
    (j : Fin 256) : k0_pay1 a b (ix2 i j) = (∑ x, a (ix2 i x) * b (ix2 x j) : EReal) := by
  pointwise [k0_pay1]

theorem k0_pay2_at (a : Vec Ideal S400x10000 .f32) (i : Fin 400) (j : Fin 10000) :
    k0_pay2 a (ix2 i j) = a (ix2 i j) := by
  pointwise [k0_pay2]

theorem k0_pay3_at (a : Vec Ideal S400x10000 .f32) (b : Vec Ideal S10000x256 .bf16)
    (c : Vec Ideal S1x256 .f32) (d : Vec Ideal S256x128 .bf16) (i : Fin 400) (j : Fin 128) :
    k0_pay3 a b c d (ix2 i j)
      = (∑ x, max ((∑ k, a (ix2 i k) * b (ix2 k x)) + c (ix2 0 x)) 0 * d (ix2 x j) : EReal) := by
  pointwise [k0_pay3]

theorem k1_pay1_eq (a : Vec Ideal S10000x128 .bf16) : k1_pay1 a = a := by
  funext y
  rw [eq_ix2 y]
  pointwise [k1_pay1]

theorem k1_pay2_eq (a : Vec Ideal S10000x128 .bf16) :
    k1_pay2 a = max (Finset.univ.fold max (Ideal.ofBits .f32 4286578688#32)
      (fun x : Fin 10000 × Fin 128 => FloatOps.absf (F := Ideal) (φ := .f32) (a (ix2 x.1 x.2))))
      (Ideal.ofBits .f32 228737632#32) := by
  pointwise [k1_pay2, k1_pay1]

theorem k1_pay4_at (a : Vec Ideal S10000x128 .bf16) (z : Ideal .f32) (hz : z = k1_pay2 a)
    (i : Fin 10000) (j : Fin 128) : k1_pay4 a (ix2 i j) = (a (ix2 i j) * up z : EReal) := by
  unfold k1_pay4
  rw [k1_pay1_eq, ← hz]
  clear hz
  pointwise []

theorem k1_pay5_at (a : Vec Ideal S10000x128 .bf16) (z : Ideal .f32) (hz : z = k1_pay2 a)
    (i : Fin 10000) (j : Fin 128) : k1_pay5 a (ix2 i j) = (a (ix2 i j) * up z : EReal) := by
  rw [← k1_pay4_at a z hz]
  unfold k1_pay5
  generalize k1_pay4 a = y
  pointwise []

theorem k1_pay6_at' (a : Vec Ideal S10000x128 .bf16) (z : Ideal .f32) (hz : z = k1_pay2 a)
    (y : FVec Ideal S10000x128 .f32) (hy : k1_pay4 a = y) (j : Fin 128) :
    k1_pay6 a (ix2 0 j) = (Ideal.ofBits .f32 1056964608#32 * ∑ x, (a (ix2 x j)
      - z * Named.named (F := Ideal) κ "inv_448" (φ := .f32) 991054117#32 * y (ix2 x j)) :
        EReal) := by
  unfold k1_pay6 k1_pay3
  rw [k1_pay1_eq, hy, ← hz]
  clear hy hz
  pointwise []

theorem k1_pay6_at (a : Vec Ideal S10000x128 .bf16) (z : Ideal .f32) (hz : z = k1_pay2 a)
    (j : Fin 128) :
    k1_pay6 a (ix2 0 j) = (Ideal.ofBits .f32 1056964608#32
      * ∑ x, (a (ix2 x j) - down z * (a (ix2 x j) * up z)) : EReal) := by
  rw [k1_pay6_at' a z hz _ rfl j, inv_448]
  simp only [k1_pay4_at a z hz]

theorem k1_pay7_at (a : Vec Ideal S10000x128 .bf16) (z : Ideal .f32) (hz : z = k1_pay2 a)
    (j : Fin 128) : k1_pay7 a (ix2 0 j) = down z := by
  have h : k1_pay7 a (ix2 0 j)
      = z * Named.named (F := Ideal) κ "inv_448" (φ := .f32) 991054117#32 := by
    unfold k1_pay7 k1_pay3
    rw [← hz]
    clear hz
    pointwise []
  rw [h, inv_448]

theorem k1_pay8_eq (a : Vec Ideal S1x64 .f32) :
    k1_pay8 a = max (Finset.univ.fold max (Ideal.ofBits .f32 4286578688#32)
      (fun x : Fin 64 => (a (ix2 0 x) : EReal))) (Ideal.ofBits .f32 228737632#32) := by
  pointwise [k1_pay8]

theorem k1_pay11_at (s : Vec Ideal S10x1000x64 .f32) (a : Vec Ideal S1x64 .f32) (i : Fin 10000)
    (j : Fin 64) :
    k1_pay11 s a (ix2 i j) = (s (ix3 ⟨i.val / 1000, by omega⟩
      ⟨i.val % 1000, Nat.mod_lt _ (by decide)⟩ j) * up (k1_pay8 a) : EReal) := by
  pointwise [k1_pay11, k1_pay10]

theorem k1_pay12_at (s : Vec Ideal S10x1000x64 .f32) (a b : Vec Ideal S1x64 .f32) (j : Fin 64) :
    k1_pay12 s a b (ix2 0 j) = (Ideal.ofBits .f32 1056964608#32 * (b (ix2 0 j)
      - down (k1_pay8 a) * ∑ i : Fin 10000, s (ix3 ⟨i.val / 1000, by omega⟩
        ⟨i.val % 1000, Nat.mod_lt _ (by decide)⟩ j) * up (k1_pay8 a)) : EReal) := by
  rw [down, ← inv_448]
  pointwise [k1_pay12, k1_pay10, k1_pay9]

theorem k1_pay13_at (a : Vec Ideal S1x64 .f32) (j : Fin 64) :
    k1_pay13 a (ix2 0 j) = down (k1_pay8 a) := by
  rw [down, ← inv_448]
  pointwise [k1_pay13, k1_pay9]

theorem k1_pay14_eq (a : Vec Ideal S1x40 .f32) :
    k1_pay14 a = max (Finset.univ.fold max (Ideal.ofBits .f32 4286578688#32)
      (fun x : Fin 40 => (a (ix2 0 x) : EReal))) (Ideal.ofBits .f32 228737632#32) := by
  pointwise [k1_pay14]

theorem k1_pay17_at (s : Vec Ideal S10x1000x64 .f32) (a : Vec Ideal S1x40 .f32) (i : Fin 10000)
    (j : Fin 40) :
    k1_pay17 s a (ix2 i j) = (s (ix3 ⟨i.val / 1000, by omega⟩
      ⟨i.val % 1000, Nat.mod_lt _ (by decide)⟩ ⟨j.val, by omega⟩) * up (k1_pay14 a) : EReal) := by
  pointwise [k1_pay17, k1_pay16]

theorem k1_pay18_at (s : Vec Ideal S10x1000x64 .f32) (a b : Vec Ideal S1x40 .f32) (j : Fin 40) :
    k1_pay18 s a b (ix2 0 j) = (Ideal.ofBits .f32 1056964608#32 * (b (ix2 0 j)
      - down (k1_pay14 a) * ∑ i : Fin 10000, s (ix3 ⟨i.val / 1000, by omega⟩
        ⟨i.val % 1000, Nat.mod_lt _ (by decide)⟩ ⟨j.val, by omega⟩) * up (k1_pay14 a)) : EReal) := by
  rw [down, ← inv_448]
  pointwise [k1_pay18, k1_pay16, k1_pay15]

theorem k1_pay19_at (a : Vec Ideal S1x40 .f32) (j : Fin 40) :
    k1_pay19 a (ix2 0 j) = down (k1_pay14 a) := by
  rw [down, ← inv_448]
  pointwise [k1_pay19, k1_pay15]

theorem k1_pay20_at (r : FVec Ideal S1000x64 .f32) (a : FVec Ideal S1x64 .f32) (j : Fin 64) :
    k1_pay20 r a (ix2 0 j) = (a (ix2 0 j) + ∑ x, r (ix2 x j) : EReal) := by
  pointwise [k1_pay20]

theorem k1_pay21_at (r : FVec Ideal S1000x64 .f32) (b : BitVec 1) (a : Vec Ideal S1x64 .f32)
    (j : Fin 64) :
    k1_pay21 r b a (ix2 0 j) = max (Scalar.select b 0 (a (ix2 0 j) : EReal))
      (Finset.univ.fold max (Ideal.ofBits .f32 4286578688#32)
        (fun x => FloatOps.absf (F := Ideal) (φ := .f32) (r (ix2 x j)))) := by
  pointwise [k1_pay21]

theorem k1_pay29_at (n : BitVec 32) (a : Vec Ideal S1x64 .f32) (j : Fin 64) :
    k1_pay29 n a (ix2 0 j)
      = Scalar.select (Scalar.cmpi .eq n 0#32) 0 (a (ix2 0 j) : EReal) := by
  pointwise [k1_pay29]

theorem k1_pay22_at (r : FVec Ideal S1000x40 .f32) (a : FVec Ideal S1x40 .f32) (j : Fin 40) :
    k1_pay22 r a (ix2 0 j) = (a (ix2 0 j) + ∑ x, r (ix2 x j) : EReal) := by
  pointwise [k1_pay22]

theorem k1_pay23_at (r : FVec Ideal S1000x40 .f32) (b : BitVec 1) (a : Vec Ideal S1x40 .f32)
    (j : Fin 40) :
    k1_pay23 r b a (ix2 0 j) = max (Scalar.select b 0 (a (ix2 0 j) : EReal))
      (Finset.univ.fold max (Ideal.ofBits .f32 4286578688#32)
        (fun x => FloatOps.absf (F := Ideal) (φ := .f32) (r (ix2 x j)))) := by
  pointwise [k1_pay23]

theorem k1_pay34_at (n : BitVec 32) (a : Vec Ideal S1x40 .f32) (j : Fin 40) :
    k1_pay34 n a (ix2 0 j)
      = Scalar.select (Scalar.cmpi .eq n 0#32) 0 (a (ix2 0 j) : EReal) := by
  pointwise [k1_pay34]

theorem k1_pay27_at (a : Vec Ideal S1000x10000 .fp8e4m3) (q : Vec Ideal S10000x128 .fp8e4m3)
    (g c b : Vec Ideal S1x128 .f32) (w : Vec Ideal S128x64 .bf16) (i : Fin 1000) (j : Fin 64) :
    k1_pay27 a q g c b w (ix2 i j)
      = (∑ x, max ((∑ k, a (ix2 i k) * q (ix2 k x)) * g (ix2 0 x) + c (ix2 0 x) + b (ix2 0 x)) 0
          * w (ix2 x j) : EReal) := by
  pointwise [k1_pay27, k1_pay25]

theorem k1_pay28_at (a : Vec Ideal S1000x10000 .fp8e4m3) (q : Vec Ideal S10000x128 .fp8e4m3)
    (g c b : Vec Ideal S1x128 .f32) (w : Vec Ideal S128x64 .bf16) (i : Fin 1000) (j : Fin 64) :
    k1_pay28 a q g c b w (ix3 0 i j) = k1_pay27 a q g c b w (ix2 i j) := by
  unfold k1_pay28
  generalize k1_pay27 a q g c b w = y
  pointwise []

theorem k1_pay32_at (a : Vec Ideal S1000x10000 .fp8e4m3) (q : Vec Ideal S10000x64 .fp8e4m3)
    (g c b : Vec Ideal S1x64 .f32) (w : Vec Ideal S64x40 .bf16) (i : Fin 1000) (j : Fin 40) :
    k1_pay32 a q g c b w (ix2 i j)
      = (∑ x, max ((∑ k, a (ix2 i k) * q (ix2 k x)) * g (ix2 0 x) + c (ix2 0 x) + b (ix2 0 x)) 0
          * w (ix2 x j) : EReal) := by
  pointwise [k1_pay32, k1_pay30]

theorem k1_pay33_at (a : Vec Ideal S1000x10000 .fp8e4m3) (q : Vec Ideal S10000x64 .fp8e4m3)
    (g c b : Vec Ideal S1x64 .f32) (w : Vec Ideal S64x40 .bf16) (i : Fin 1000) (j : Fin 40) :
    k1_pay33 a q g c b w (ix3 0 i j) = k1_pay32 a q g c b w (ix2 i j) := by
  unfold k1_pay33
  generalize k1_pay32 a q g c b w = y
  pointwise []

theorem k1_pay24_at (a : Vec Ideal S1000x10000 .fp8e4m3) (q : Vec Ideal S10000x40 .fp8e4m3)
    (g c b : Vec Ideal S1x40 .f32) (i : Fin 1000) (j : Fin 40) :
    k1_pay24 a q g c b (ix2 i j) = Net.logSoftmax (fun x => max
      ((∑ k, a (ix2 i k) * q (ix2 k x)) * g (ix2 0 x) + c (ix2 0 x) + b (ix2 0 x) : EReal) 0) j := by
  rw [Net.logSoftmax, ← Net.ofBits_negInf]
  pointwise [k1_pay24]

end Cert.KernelIdeal.Hand
-- ==== Proof.KernelIdeal.Value.lean ====
module

public import proofs.«01_k».proof.Proof.KernelIdeal.Payload

/-! What the second region computes, when its operands are real numbers: three graph layers and the
log of the softmax. The scaling of each layer's table cancels against the unscaling of the product,
and the correction added to each product is zero. -/

@[expose] public section

set_option maxRecDepth 16384

namespace Cert.KernelIdeal.Hand

open Idealize.ShloMosaic
open Cert.KernelIdeal Cert.KernelIdeal.Gen
open Cert.Net

namespace In

variable (I : In Ideal)

/-- Row `i` of the adjacency matrix's row block `n`. -/
def row (n : ℕ) (i : Fin 1000) (k : Fin 10000) : EReal := I.A n (ix2 i k)

/-- The first layer's table. -/
def tab0 (k : Fin 10000) (j : Fin 128) : EReal := I.s2 (ix2 k j)

/-- The second layer's table, one row block. -/
noncomputable def next0 (n : ℕ) (i : Fin 1000) (j : Fin 64) : EReal :=
  vm (layer (I.row n i) I.tab0 fun j => I.b2 (ix2 0 j)) (fun k j => I.w3 (ix2 k j)) j

noncomputable def tab1 (k : Fin 10000) (j : Fin 64) : EReal :=
  I.next0 (k.val / 1000) ⟨k.val % 1000, Nat.mod_lt _ (by decide)⟩ j

/-- The third layer's table, one row block. -/
noncomputable def next1 (n : ℕ) (i : Fin 1000) (j : Fin 40) : EReal :=
  vm (layer (I.row n i) I.tab1 fun j => I.b3 (ix2 0 j)) (fun k j => I.w4 (ix2 k j)) j

noncomputable def tab2 (k : Fin 10000) (j : Fin 40) : EReal :=
  I.next1 (k.val / 1000) ⟨k.val % 1000, Nat.mod_lt _ (by decide)⟩ j

/-- All operands but the last bias are real numbers. -/
structure Real : Prop where
  A : ∀ n y, IsR (I.A n y)
  s2 : ∀ y, IsR (I.s2 y)
  b2 : ∀ y, IsR (I.b2 y)
  w3 : ∀ y, IsR (I.w3 y)
  b3 : ∀ y, IsR (I.b3 y)
  w4 : ∀ y, IsR (I.w4 y)

variable {I}

theorem Real.next0 (h : I.Real) (n : ℕ) (i : Fin 1000) (j : Fin 64) : IsR (I.next0 n i j) :=
  IsR.vm (IsR.layer (fun _ => h.A _ _) (fun _ _ => h.s2 _) fun _ => h.b2 _) (fun _ _ => h.w3 _) j

theorem Real.tab1 (h : I.Real) (k : Fin 10000) (j : Fin 64) : IsR (I.tab1 k j) := h.next0 _ _ _

theorem Real.next1 (h : I.Real) (n : ℕ) (i : Fin 1000) (j : Fin 40) : IsR (I.next1 n i j) :=
  IsR.vm (IsR.layer (fun _ => h.A _ _) h.tab1 fun _ => h.b3 _) (fun _ _ => h.w4 _) j

theorem Real.tab2 (h : I.Real) (k : Fin 10000) (j : Fin 40) : IsR (I.tab2 k j) := h.next1 _ _ _

theorem isR_select {c : BitVec 1} {x y : EReal} (hx : IsR x) (hy : IsR y) :
    IsR (Scalar.select c x y) := by
  unfold Scalar.select
  split <;> assumption

/-! ### The first layer -/

theorem r0_at (h : I.Real) (n : ℕ) (i : Fin 1000) (j : Fin 64) :
    I.r0 n (ix2 i j) = I.next0 n i j := by
  obtain ⟨r, hr, hz⟩ : ∃ r : ℝ, 0 < r ∧ k1_pay2 I.s2 = (r : EReal) := by
    rw [k1_pay2_eq]
    refine pos_floor (fold_max_ne_top _ _ _ ?_ fun x => (IsR.abs (h.s2 _)).ne_top)
    rw [ofBits_negInf]; exact bot_ne_top
  unfold r0 q0 g0 c0
  rw [k1_pay27_at]
  unfold next0 vm
  refine Finset.sum_congr (M := EReal) rfl fun x _ => ?_
  rw [k1_pay7_at _ _ hz.symm, k1_pay6_at _ _ hz.symm,
    resid_sum (fun x' => I.s2 (ix2 x' x)) (fun _ => h.s2 _) hr, mul_zero]
  simp only [k1_pay5_at _ _ hz.symm]
  rw [kernel_layer (fun k => I.A n (ix2 i k)) (fun k j => I.s2 (ix2 k j))
    (fun j => I.b2 (ix2 0 j)) (fun _ => h.A _ _) (fun _ _ => h.s2 _) hr x]
  rfl

theorem ofBits_zero : Ideal.ofBits .f32 0#32 = 0 := Ideal.ofBits_zero_f32

theorem select_ne {n : ℕ} (h0 : n ≠ 0) (hn : n < 10) (x y : EReal) :
    Scalar.select (Scalar.cmpi .eq (BitVec.ofNat 32 n) 0#32) x y = y := by
  have e : Scalar.cmpi .eq (BitVec.ofNat 32 n) 0#32 = 0#1 := by
    interval_cases n
    · exact absurd rfl h0
    all_goals rfl
  rw [e]; rfl

theorem s0_acs_at (h : I.Real) (n : ℕ) (hn : n ≤ 10) (j : Fin 64) :
    I.acs0 n (ix2 0 j) = ∑ k ∈ Finset.range n, ∑ x, I.next0 k x j := by
  induction n with
  | zero =>
      rw [Finset.sum_range_zero]
      exact ofBits_zero
  | succ n ih =>
      have e : I.acs0 (n + 1) = k1_pay20 (I.r0 n) (k1_pay29 (BitVec.ofNat 32 n) (I.acs0 n)) := rfl
      rw [e, k1_pay20_at, k1_pay29_at, ih (by omega), Finset.sum_range_succ]
      congr 1
      · by_cases h0 : n = 0
        · subst h0
          simp [Scalar.select]
        · exact select_ne h0 (by omega) _ _
      · exact Finset.sum_congr rfl fun x _ => r0_at h n x j

theorem s0_acm_isR (h : I.Real) (n : ℕ) (j : Fin 64) : IsR (I.acm0 n (ix2 0 j)) := by
  induction n with
  | zero =>
      have e : I.acm0 0 (ix2 0 j) = (0 : EReal) := ofBits_zero
      rw [e]; exact IsR.zero
  | succ n ih =>
      have e : I.acm0 (n + 1) = k1_pay21 (I.r0 n) (Scalar.cmpi .eq (BitVec.ofNat 32 n) 0#32) (I.acm0 n) := rfl
      rw [e, k1_pay21_at]
      refine IsR.sup_left (isR_select IsR.zero ih) (fold_max_ne_top _ _ _ ?_ fun x => ?_)
      · rw [ofBits_negInf]; exact bot_ne_top
      · rw [r0_at h n x j]
        exact (IsR.abs (h.next0 n x j)).ne_top

/-! ### The second layer -/

theorem sf0_at (h : I.Real) (k : Fin 10000) (j : Fin 64) :
    I.sf0 (ix3 ⟨k.val / 1000, by omega⟩ ⟨k.val % 1000, Nat.mod_lt _ (by decide)⟩ j)
      = I.tab1 k j := by
  have e : loc64 (ix3 (n0 := 10) (n1 := 1000) (n2 := 64) ⟨k.val / 1000, by omega⟩
      ⟨k.val % 1000, Nat.mod_lt _ (by decide)⟩ j)
      = ix3 0 ⟨k.val % 1000, Nat.mod_lt _ (by decide)⟩ j := by
    funext a
    match a with
    | ⟨0, _⟩ => rfl
    | ⟨1, _⟩ => rfl
    | ⟨2, _⟩ => rfl
  unfold sf0
  rw [e]
  refine (k1_pay28_at _ _ _ _ _ _ _ _).trans ?_
  exact r0_at h (k.val / 1000) _ j

theorem k1_pay8_pos (h : I.Real) : ∃ r : ℝ, 0 < r ∧ k1_pay8 (I.acm0 10) = (r : EReal) := by
  rw [k1_pay8_eq]
  refine pos_floor (fold_max_ne_top _ _ _ ?_ fun x => (s0_acm_isR h 10 x).ne_top)
  rw [ofBits_negInf]; exact bot_ne_top

theorem acs0_total (h : I.Real) (j : Fin 64) : I.acs0 10 (ix2 0 j) = ∑ k, I.tab1 k j := by
  rw [s0_acs_at h 10 le_rfl]
  exact sum_blocks fun n x => I.next0 n x j

theorem c1_at (h : I.Real) (j : Fin 64) : I.c1 (ix2 0 j) = (0 : EReal) := by
  obtain ⟨r, hr, hz⟩ := k1_pay8_pos h
  unfold c1
  rw [k1_pay12_at, acs0_total h, hz]
  simp only [sf0_at h]
  rw [resid_total (fun k => I.tab1 k j) (fun k => h.tab1 k j) hr, mul_zero]

theorem r1_at (h : I.Real) (n : ℕ) (i : Fin 1000) (j : Fin 40) :
    I.r1 n (ix2 i j) = I.next1 n i j := by
  obtain ⟨r, hr, hz⟩ := k1_pay8_pos h
  unfold r1 q1 g1
  rw [k1_pay32_at]
  unfold next1 vm
  refine Finset.sum_congr (M := EReal) rfl fun x _ => ?_
  rw [c1_at h, k1_pay13_at, hz]
  simp only [k1_pay11_at, hz, sf0_at h]
  rw [kernel_layer (fun k => I.A n (ix2 i k)) I.tab1 (fun j => I.b3 (ix2 0 j)) (fun _ => h.A _ _)
    h.tab1 hr x]
  rfl

theorem s1_acs_at (h : I.Real) (n : ℕ) (hn : n ≤ 10) (j : Fin 40) :
    I.acs1 n (ix2 0 j) = ∑ k ∈ Finset.range n, ∑ x, I.next1 k x j := by
  induction n with
  | zero =>
      rw [Finset.sum_range_zero]
      exact ofBits_zero
  | succ n ih =>
      have e : I.acs1 (n + 1) = k1_pay22 (I.r1 n) (k1_pay34 (BitVec.ofNat 32 n) (I.acs1 n)) := rfl
      rw [e, k1_pay22_at, k1_pay34_at, ih (by omega), Finset.sum_range_succ]
      congr 1
      · by_cases h0 : n = 0
        · subst h0
          simp [Scalar.select]
        · exact select_ne h0 (by omega) _ _
      · exact Finset.sum_congr rfl fun x _ => r1_at h n x j

theorem s1_acm_isR (h : I.Real) (n : ℕ) (j : Fin 40) : IsR (I.acm1 n (ix2 0 j)) := by
  induction n with
  | zero =>
      have e : I.acm1 0 (ix2 0 j) = (0 : EReal) := ofBits_zero
      rw [e]; exact IsR.zero
  | succ n ih =>
      have e : I.acm1 (n + 1) = k1_pay23 (I.r1 n) (Scalar.cmpi .eq (BitVec.ofNat 32 n) 0#32) (I.acm1 n) := rfl
      rw [e, k1_pay23_at]
      refine IsR.sup_left (isR_select IsR.zero ih) (fold_max_ne_top _ _ _ ?_ fun x => ?_)
      · rw [ofBits_negInf]; exact bot_ne_top
      · rw [r1_at h n x j]
        exact (IsR.abs (h.next1 n x j)).ne_top

/-! ### The third layer -/

theorem sf1_at (h : I.Real) (k : Fin 10000) (j : Fin 40) :
    I.sf1 (ix3 ⟨k.val / 1000, by omega⟩ ⟨k.val % 1000, Nat.mod_lt _ (by decide)⟩
      ⟨j.val, by omega⟩) = I.tab2 k j := by
  have hj : ((ix3 (n0 := 10) (n1 := 1000) (n2 := 64) ⟨k.val / 1000, by omega⟩
      ⟨k.val % 1000, Nat.mod_lt _ (by decide)⟩ ⟨j.val, by omega⟩) 2).val < 40 := j.isLt
  have e : loc40 (ix3 (n0 := 10) (n1 := 1000) (n2 := 64) ⟨k.val / 1000, by omega⟩
      ⟨k.val % 1000, Nat.mod_lt _ (by decide)⟩ ⟨j.val, by omega⟩) hj
      = ix3 0 ⟨k.val % 1000, Nat.mod_lt _ (by decide)⟩ j := by
    funext a
    match a with
    | ⟨0, _⟩ => rfl
    | ⟨1, _⟩ => rfl
    | ⟨2, _⟩ => rfl
  unfold sf1
  rw [dif_pos hj, e]
  refine (k1_pay33_at _ _ _ _ _ _ _ _).trans ?_
  exact r1_at h (k.val / 1000) _ j

theorem k1_pay14_pos (h : I.Real) : ∃ r : ℝ, 0 < r ∧ k1_pay14 (I.acm1 10) = (r : EReal) := by
  rw [k1_pay14_eq]
  refine pos_floor (fold_max_ne_top _ _ _ ?_ fun x => (s1_acm_isR h 10 x).ne_top)
  rw [ofBits_negInf]; exact bot_ne_top

theorem acs1_total (h : I.Real) (j : Fin 40) : I.acs1 10 (ix2 0 j) = ∑ k, I.tab2 k j := by
  rw [s1_acs_at h 10 le_rfl]
  exact sum_blocks fun n x => I.next1 n x j

theorem c2_at (h : I.Real) (j : Fin 40) : I.c2 (ix2 0 j) = (0 : EReal) := by
  obtain ⟨r, hr, hz⟩ := k1_pay14_pos h
  unfold c2
  rw [k1_pay18_at, acs1_total h, hz]
  simp only [sf1_at h]
  rw [resid_total (fun k => I.tab2 k j) (fun k => h.tab2 k j) hr, mul_zero]

/-- One entry of one row block of the result. -/
theorem out_at (h : I.Real) (n : ℕ) (i : Fin 1000) (j : Fin 40) :
    I.out n (ix2 i j)
      = logSoftmax (layer (I.row n i) I.tab2 fun j => I.b4 (ix2 0 j)) j := by
  obtain ⟨r, hr, hz⟩ := k1_pay14_pos h
  unfold out q2 g2
  rw [k1_pay24_at]
  refine congrArg (fun f => logSoftmax f j) (funext fun x => ?_)
  rw [c2_at h, k1_pay19_at, hz]
  simp only [k1_pay17_at, hz, sf1_at h]
  rw [kernel_layer (fun k => I.A n (ix2 i k)) I.tab2 (fun j => I.b4 (ix2 0 j)) (fun _ => h.A _ _)
    h.tab2 hr x]
  rfl

end In

end Cert.KernelIdeal.Hand
-- ==== Proof.KernelIdeal.Arrays.lean ====
module

public import proofs.«01_k».proof.Proof.KernelIdeal.Run
public import proofs.«01_k».proof.Proof.KernelIdeal.Value
public import Idealize.ShloMosaic.Lib.Pipeline.ValueKit

/-! The arrays the two regions leave, read at an index, in terms of the arrays they start from. -/

@[expose] public section

set_option maxRecDepth 16384

namespace Cert.KernelIdeal.Hand

open Idealize.ShloMosaic Idealize.ShloMosaic.TcCoe
open Cert.KernelIdeal Cert.KernelIdeal.Gen
open Cert.Net

variable (W : Dev nD → Valuation τ sig (Elt Ideal)) (c : Dev nD)

theorem lt25 (t : Fin cfg0.N) : t.val < 25 := t.isLt

theorem lt30 (t : Fin cfg1.N) : t.val < 30 := t.isLt

theorem index0_0 : ∀ t : Fin cfg0.N, win0_0.index t = ![0, 0] := by decide +kernel

theorem index0_1 : ∀ t : Fin cfg0.N, win0_1.index t = ![0, 0] := by decide +kernel

theorem index0_2 : ∀ t : Fin cfg0.N, win0_2.index t = ![0, 0] := by decide +kernel

theorem index0_3 : ∀ t : Fin cfg0.N, win0_3.index t = ![0, 0] := by decide +kernel

theorem index0_4 : ∀ t : Fin cfg0.N, win0_4.index t = ![t.val, 0] := by decide +kernel

theorem index0_5 : ∀ t : Fin cfg0.N, win0_5.index t = ![t.val, 0] := by decide +kernel

theorem index0_6 : ∀ t : Fin cfg0.N, win0_6.index t = ![t.val, 0] := by decide +kernel

theorem index1_0 : ∀ t : Fin cfg1.N, win1_0.index t = ![0, 0] := by decide +kernel

theorem index1_1 : ∀ t : Fin cfg1.N, win1_1.index t = ![0, 0] := by decide +kernel

theorem index1_2 : ∀ t : Fin cfg1.N, win1_2.index t = ![0, 0] := by decide +kernel

theorem index1_3 : ∀ t : Fin cfg1.N, win1_3.index t = ![0, 0] := by decide +kernel

theorem index1_4 : ∀ t : Fin cfg1.N, win1_4.index t = ![0, 0] := by decide +kernel

theorem index1_5 : ∀ t : Fin cfg1.N, win1_5.index t = ![0, 0] := by decide +kernel

theorem indexA : ∀ t : Fin cfg1.N, win1_6.index t = ![t.val % 10, 0] := by decide +kernel

theorem index1_7 : ∀ t : Fin cfg1.N, (cfg1.win 7).flush t = true → win1_7.index t = ![t.val % 10, 0] := by
  decide +kernel

theorem blk0_0_at (t : Fin cfg0.N) (i : Fin 10000) (j : Fin 128) :
    blk0 W c 0 t (ix2 i j) = (W c main_arg0 : S10000x128.Idx → EReal) (ix2 i j) := by
  blk_ext [blk0, index0_0 t]

theorem blk0_1_at (t : Fin cfg0.N) (i : Fin 128) (j : Fin 256) :
    blk0 W c 1 t (ix2 i j) = (W c main_arg2 : S128x256.Idx → EReal) (ix2 i j) := by
  blk_ext [blk0, index0_1 t]

theorem blk0_2_at (t : Fin cfg0.N) (i : Fin 1) (j : Fin 256) :
    blk0 W c 2 t (ix2 i j) = (W c main_v0 : S1x256.Idx → EReal) (ix2 i j) := by
  blk_ext [blk0, index0_2 t]

theorem blk0_3_at (t : Fin cfg0.N) (i : Fin 256) (j : Fin 128) :
    blk0 W c 3 t (ix2 i j) = (W c main_v1 : S256x128.Idx → EReal) (ix2 i j) := by
  blk_ext [blk0, index0_3 t]

theorem blk0_4_at (t : Fin cfg0.N) (i : Fin 400) (k : Fin 10000) :
    blk0 W c 4 t (ix2 i k) = (W c main_arg1 : S10000x10000.Idx → EReal)
      (ix2 ⟨400 * t.val + i.val, by have := lt25 t; omega⟩ k) := by
  blk_ext [blk0, index0_4 t]

theorem blk1_0_at (t : Fin cfg1.N) (i : Fin 10000) (j : Fin 128) :
    blk1 W c 0 t (ix2 i j) = (W c main_v2_0 : S10000x128.Idx → EReal) (ix2 i j) := by
  blk_ext [blk1, index1_0 t]

theorem blk1_1_at (t : Fin cfg1.N) (i : Fin 1) (j : Fin 128) :
    blk1 W c 1 t (ix2 i j) = (W c main_v3 : S1x128.Idx → EReal) (ix2 i j) := by
  blk_ext [blk1, index1_1 t]

theorem blk1_2_at (t : Fin cfg1.N) (i : Fin 128) (j : Fin 64) :
    blk1 W c 2 t (ix2 i j) = (W c main_v4 : S128x64.Idx → EReal) (ix2 i j) := by
  blk_ext [blk1, index1_2 t]

theorem blk1_3_at (t : Fin cfg1.N) (i : Fin 1) (j : Fin 64) :
    blk1 W c 3 t (ix2 i j) = (W c main_v5 : S1x64.Idx → EReal) (ix2 i j) := by
  blk_ext [blk1, index1_3 t]

theorem blk1_4_at (t : Fin cfg1.N) (i : Fin 64) (j : Fin 40) :
    blk1 W c 4 t (ix2 i j) = (W c main_v6 : S64x40.Idx → EReal) (ix2 i j) := by
  blk_ext [blk1, index1_4 t]

theorem blk1_5_at (t : Fin cfg1.N) (i : Fin 1) (j : Fin 40) :
    blk1 W c 5 t (ix2 i j) = (W c main_v7 : S1x40.Idx → EReal) (ix2 i j) := by
  blk_ext [blk1, index1_5 t]

theorem blk1_6_at (t : Fin cfg1.N) (i : Fin 1000) (k : Fin 10000) :
    blk1 W c 6 t (ix2 i k) = (W c main_v2_1 : S10000x10000.Idx → EReal)
      (ix2 ⟨1000 * (t.val % 10) + i.val, by omega⟩ k) := by
  blk_ext [blk1, indexA t]

/-- The first region's second result is its adjacency matrix. -/
theorem arr0_6 : ((dat0 W c).arrAt 6 cfg0.N : S10000x10000.Idx → EReal) = W c main_arg1 := by
  refine (dat0 W c).arrAt_eq_of_covers 6 _ (by decide +kernel) fun t hf y => ?_
  blk_simp
  have key : ∀ y : S400x10000.Idx, k0_pay2 (blk0 W c 4 t) y
      = (W c main_arg1 : S10000x10000.Idx → EReal) ((win0_6.blk t).view.emb y) := by
    intro y
    obtain ⟨i, k, rfl⟩ : ∃ (i : Fin 400) (k : Fin 10000), y = ix2 i k := ⟨_, _, eq_ix2 y⟩
    rw [k0_pay2_at, blk0_4_at]
    blk_ext [index0_6 t]
  exact key y

/-- The second layer's table, from the first region's operands. -/
noncomputable def table (y : S10000x128.Idx) : EReal :=
  vm (layer (fun k => (W c main_arg1 : S10000x10000.Idx → EReal) (ix2 (y 0) k))
      (fun k => vm (fun l => (W c main_arg0 : S10000x128.Idx → EReal) (ix2 k l))
        fun l x => (W c main_arg2 : S128x256.Idx → EReal) (ix2 l x))
      fun x => (W c main_v0 : S1x256.Idx → EReal) (ix2 0 x))
    (fun x j => (W c main_v1 : S256x128.Idx → EReal) (ix2 x j)) (y 1)

/-- The first region's first result. -/
theorem arr0_5 : ((dat0 W c).arrAt 5 cfg0.N : S10000x128.Idx → EReal) = table W c := by
  refine (dat0 W c).arrAt_eq_of_covers 5 _ (by decide +kernel) fun t hf y => ?_
  blk_simp
  have key : ∀ y : S400x128.Idx,
      k0_pay3 (blk0 W c 4 t) (supp0 W c) (blk0 W c 2 t0) (blk0 W c 3 t0) y
      = table W c ((win0_5.blk t).view.emb y) := by
    intro y
    obtain ⟨i, j, rfl⟩ : ∃ (i : Fin 400) (j : Fin 128), y = ix2 i j := ⟨_, _, eq_ix2 y⟩
    have e : ((win0_5.blk t).view.emb (ix2 i j) : S10000x128.Idx)
        = ix2 ⟨400 * t.val + i.val, by have := lt25 t; omega⟩ j := by
      blk_ext [index0_5 t]
    rw [e, k0_pay3_at]
    unfold supp0
    simp only [k0_pay1_at, blk0_0_at, blk0_1_at, blk0_2_at, blk0_3_at, blk0_4_at]
    rfl
  exact key y

/-- The row blocks of the second region's result, put together. -/
noncomputable def In.result (I : In Ideal) (y : S10000x40.Idx) : EReal :=
  I.out ((y 0).val / 1000) (ix2 ⟨(y 0).val % 1000, Nat.mod_lt _ (by decide)⟩ (y 1))

theorem In.result_at (I : In Ideal) (n : ℕ) (i : Fin 1000) (r : Fin 10000) (j : Fin 40)
    (h : r.val = 1000 * n + i.val) : I.result (ix2 r j) = I.out n (ix2 i j) := by
  have h1 : r.val / 1000 = n := by have := i.isLt; omega
  have h2 : (⟨r.val % 1000, Nat.mod_lt _ (by decide)⟩ : Fin 1000) = i :=
    Fin.ext (by show r.val % 1000 = i.val; have := i.isLt; omega)
  have e : I.result (ix2 r j)
      = I.out (r.val / 1000) (ix2 ⟨r.val % 1000, Nat.mod_lt _ (by decide)⟩ j) := rfl
  rw [e, h1, h2]

theorem emb1_7 (t : Fin cfg1.N) (hf : (cfg1.win 7).flush t = true) (i : Fin 1000) (j : Fin 40) :
    ((win1_7.blk t).view.emb (ix2 i j) : S10000x40.Idx)
      = ix2 ⟨1000 * (t.val % 10) + i.val, by omega⟩ j := by
  blk_ext [index1_7 t hf]

/-- The second region's result. -/
theorem arr1_7 : ((dat1 W c).arrAt 7 cfg1.N : S10000x40.Idx → EReal) = (ins W c).result := by
  refine (dat1 W c).arrAt_eq_of_covers 7 _ (by decide +kernel) fun t hf y => ?_
  blk_simp
  have key : ∀ y : S1000x40.Idx,
      (ins W c).out (t.val % 10) y = (ins W c).result ((win1_7.blk t).view.emb y) := by
    intro y
    obtain ⟨i, j, rfl⟩ : ∃ (i : Fin 1000) (j : Fin 40), y = ix2 i j := ⟨_, _, eq_ix2 y⟩
    rw [emb1_7 t hf]
    exact ((ins W c).result_at _ i _ j rfl).symm
  exact key y

end Cert.KernelIdeal.Hand
-- ==== Proof.KernelIdeal.Result.lean ====
module

public import proofs.«01_k».proof.Proof.KernelIdeal.Arrays
public import Idealize.ShloMosaic.Lib.Claim

/-! The kernel's result, read at an index, is the network, when every argument but the last bias
holds real numbers. -/

@[expose] public section

set_option maxRecDepth 16384

namespace Cert.KernelIdeal.Hand

open Idealize.ShloMosaic Idealize.ShloMosaic.TcCoe
open Cert.KernelIdeal Cert.KernelIdeal.Gen
open Cert.Net

variable (m : (ℓ : Loc nD τ sig) → Buf (Elt Ideal) ℓ) (c : Dev nD)

/-! ### The arguments at an index -/

def a0 (i : Fin 10000) (j : Fin 128) : EReal :=
  (m ((c.tc : Thread nD τ).loc main_arg0) : S10000x128.Idx → EReal) (ix2 i j)

def a1 (i : Fin 10000) (j : Fin 10000) : EReal :=
  (m ((c.tc : Thread nD τ).loc main_arg1) : S10000x10000.Idx → EReal) (ix2 i j)

def a2 (i : Fin 128) (j : Fin 256) : EReal :=
  (m ((c.tc : Thread nD τ).loc main_arg2) : S128x256.Idx → EReal) (ix2 i j)

def a3 (j : Fin 256) : EReal :=
  (m ((c.tc : Thread nD τ).loc main_arg3) : S256.Idx → EReal) (ix1 j)

def a4 (i : Fin 256) (j : Fin 128) : EReal :=
  (m ((c.tc : Thread nD τ).loc main_arg4) : S256x128.Idx → EReal) (ix2 i j)

def a5 (j : Fin 128) : EReal :=
  (m ((c.tc : Thread nD τ).loc main_arg5) : S128.Idx → EReal) (ix1 j)

def a6 (i : Fin 128) (j : Fin 64) : EReal :=
  (m ((c.tc : Thread nD τ).loc main_arg6) : S128x64.Idx → EReal) (ix2 i j)

def a7 (j : Fin 64) : EReal :=
  (m ((c.tc : Thread nD τ).loc main_arg7) : S64.Idx → EReal) (ix1 j)

def a8 (i : Fin 64) (j : Fin 40) : EReal :=
  (m ((c.tc : Thread nD τ).loc main_arg8) : S64x40.Idx → EReal) (ix2 i j)

def a9 (j : Fin 40) : EReal :=
  (m ((c.tc : Thread nD τ).loc main_arg9) : S40.Idx → EReal) (ix1 j)

/-- Every argument but the last bias holds real numbers. -/
structure Args : Prop where
  h0 : ∀ i j, IsR (a0 m c i j)
  h1 : ∀ i j, IsR (a1 m c i j)
  h2 : ∀ i j, IsR (a2 m c i j)
  h3 : ∀ j, IsR (a3 m c j)
  h4 : ∀ i j, IsR (a4 m c i j)
  h5 : ∀ j, IsR (a5 m c j)
  h6 : ∀ i j, IsR (a6 m c i j)
  h7 : ∀ j, IsR (a7 m c j)
  h8 : ∀ i j, IsR (a8 m c i j)

/-! ### The arrays the regions start from -/

theorem v1_arg0 (i : Fin 10000) (j : Fin 128) :
    (V1 m c main_arg0 : S10000x128.Idx → EReal) (ix2 i j) = a0 m c i j := by
  rw [V1_of m c main_arg0 (by decide)]
  rfl

theorem v1_arg1 (i : Fin 10000) (j : Fin 10000) :
    (V1 m c main_arg1 : S10000x10000.Idx → EReal) (ix2 i j) = a1 m c i j := by
  rw [V1_of m c main_arg1 (by decide)]
  rfl

theorem v1_arg2 (i : Fin 128) (j : Fin 256) :
    (V1 m c main_arg2 : S128x256.Idx → EReal) (ix2 i j) = a2 m c i j := by
  rw [V1_of m c main_arg2 (by decide)]
  rfl

theorem v1_v0 (j : Fin 256) : (V1 m c main_v0 : S1x256.Idx → EReal) (ix2 0 j) = a3 m c j := by
  unfold V1 a3
  entry_read
  pointwise

theorem v1_v1 (i : Fin 256) (j : Fin 128) :
    (V1 m c main_v1 : S256x128.Idx → EReal) (ix2 i j) = a4 m c i j := by
  unfold V1
  entry_read
  rfl

theorem v3_v3 (j : Fin 128) :
    (V3 m (outs m) c main_v3 : S1x128.Idx → EReal) (ix2 0 j) = a5 m c j := by
  unfold V3 a5
  entry_read
  pointwise
  rw [V2_of m (outs m) c main_arg5 (by decide), V1_of m c main_arg5 (by decide)]

theorem v3_v5 (j : Fin 64) :
    (V3 m (outs m) c main_v5 : S1x64.Idx → EReal) (ix2 0 j) = a7 m c j := by
  unfold V3 a7
  entry_read
  pointwise
  rw [V2_of m (outs m) c main_arg7 (by decide), V1_of m c main_arg7 (by decide)]

theorem v3_v7 (j : Fin 40) :
    (V3 m (outs m) c main_v7 : S1x40.Idx → EReal) (ix2 0 j) = a9 m c j := by
  unfold V3 a9
  entry_read
  pointwise
  rw [V2_of m (outs m) c main_arg9 (by decide), V1_of m c main_arg9 (by decide)]

theorem v3_v4 (i : Fin 128) (j : Fin 64) :
    (V3 m (outs m) c main_v4 : S128x64.Idx → EReal) (ix2 i j) = a6 m c i j := by
  unfold V3 a6
  entry_read
  show V2 m (outs m) c main_arg6 (ix2 i j) = _
  rw [V2_of m (outs m) c main_arg6 (by decide), V1_of m c main_arg6 (by decide)]

theorem v3_v6 (i : Fin 64) (j : Fin 40) :
    (V3 m (outs m) c main_v6 : S64x40.Idx → EReal) (ix2 i j) = a8 m c i j := by
  unfold V3 a8
  entry_read
  show V2 m (outs m) c main_arg8 (ix2 i j) = _
  rw [V2_of m (outs m) c main_arg8 (by decide), V1_of m c main_arg8 (by decide)]

theorem v3_v2_0 (i : Fin 10000) (j : Fin 128) :
    (V3 m (outs m) c main_v2_0 : S10000x128.Idx → EReal) (ix2 i j)
      = table0 (a0 m c) (a1 m c) (a2 m c) (a3 m c) (a4 m c) i j := by
  rw [V3_of m (outs m) c main_v2_0 (by decide), mid0_eq]
  refine (congrFun (arr0_5 (V1 m) c) (ix2 i j)).trans ?_
  have e0 : (fun k l => (V1 m c main_arg0 : S10000x128.Idx → EReal) (ix2 k l)) = a0 m c :=
    funext fun k => funext fun l => v1_arg0 m c k l
  have e1 : (fun k l => (V1 m c main_arg1 : S10000x10000.Idx → EReal) (ix2 k l)) = a1 m c :=
    funext fun k => funext fun l => v1_arg1 m c k l
  have e2 : (fun k l => (V1 m c main_arg2 : S128x256.Idx → EReal) (ix2 k l)) = a2 m c :=
    funext fun k => funext fun l => v1_arg2 m c k l
  have e3 : (fun l => (V1 m c main_v0 : S1x256.Idx → EReal) (ix2 0 l)) = a3 m c :=
    funext fun l => v1_v0 m c l
  have e4 : (fun k l => (V1 m c main_v1 : S256x128.Idx → EReal) (ix2 k l)) = a4 m c :=
    funext fun k => funext fun l => v1_v1 m c k l
  rw [← e0, ← e1, ← e2, ← e3, ← e4]
  rfl

theorem v3_v2_1 (i j : Fin 10000) :
    (V3 m (outs m) c main_v2_1 : S10000x10000.Idx → EReal) (ix2 i j) = a1 m c i j := by
  rw [V3_of m (outs m) c main_v2_1 (by decide), mid1_eq]
  exact (congrFun (arr0_6 (V1 m) c) (ix2 i j)).trans (v1_arg1 m c i j)

/-! ### The second region's operands -/

/-- The second region's operands in a run from `m`. -/
noncomputable abbrev op : In Ideal := ins (V3 m (outs m)) c

theorem op_s2 (i : Fin 10000) (j : Fin 128) : (op m c).s2 (ix2 i j) = table0 (a0 m c) (a1 m c) (a2 m c) (a3 m c) (a4 m c) i j :=
  (blk1_0_at (V3 m (outs m)) c (pt1 0) i j).trans (v3_v2_0 m c i j)

theorem op_b2 (j : Fin 128) : (op m c).b2 (ix2 0 j) = a5 m c j :=
  (blk1_1_at (V3 m (outs m)) c (pt1 0) 0 j).trans (v3_v3 m c j)

theorem op_w3 (i : Fin 128) (j : Fin 64) : (op m c).w3 (ix2 i j) = a6 m c i j :=
  (blk1_2_at (V3 m (outs m)) c (pt1 0) i j).trans (v3_v4 m c i j)

theorem op_b3 (j : Fin 64) : (op m c).b3 (ix2 0 j) = a7 m c j :=
  (blk1_3_at (V3 m (outs m)) c (pt1 0) 0 j).trans (v3_v5 m c j)

theorem op_w4 (i : Fin 64) (j : Fin 40) : (op m c).w4 (ix2 i j) = a8 m c i j :=
  (blk1_4_at (V3 m (outs m)) c (pt1 0) i j).trans (v3_v6 m c i j)

theorem op_b4 (j : Fin 40) : (op m c).b4 (ix2 0 j) = a9 m c j :=
  (blk1_5_at (V3 m (outs m)) c (pt1 0) 0 j).trans (v3_v7 m c j)

theorem op_A (n : ℕ) (i : Fin 1000) (k : Fin 10000) :
    (op m c).A n (ix2 i k) = a1 m c ⟨1000 * (n % 10) + i.val, by omega⟩ k := by
  refine ((blk1_6_at (V3 m (outs m)) c (pt1 n) i k).trans (v3_v2_1 m c _ k)).trans ?_
  have e : (pt1 n).val % 10 = n % 10 := by
    show n % 30 % 10 = n % 10
    omega
  congr 1
  exact Fin.ext (by show 1000 * ((pt1 n).val % 10) + i.val = 1000 * (n % 10) + i.val; rw [e])

theorem op_row (k : Fin 10000) :
    (op m c).row (k.val / 1000) ⟨k.val % 1000, Nat.mod_lt _ (by decide)⟩ = a1 m c k := by
  funext l
  refine (op_A m c _ _ l).trans ?_
  congr 1
  exact Fin.ext (by show 1000 * (k.val / 1000 % 10) + k.val % 1000 = k.val; omega)

variable {m c}

theorem Args.real (h : Args m c) : (op m c).Real where
  A n y := by
    obtain ⟨i, k, rfl⟩ : ∃ (i : Fin 1000) (k : Fin 10000), y = ix2 i k := ⟨_, _, eq_ix2 y⟩
    rw [op_A]; exact h.h1 _ _
  s2 y := by
    obtain ⟨i, k, rfl⟩ : ∃ (i : Fin 10000) (k : Fin 128), y = ix2 i k := ⟨_, _, eq_ix2 y⟩
    rw [op_s2]
    exact IsR.vm (IsR.layer (h.h1 i) (fun k j => IsR.vm (h.h0 k) h.h2 j) h.h3) h.h4 k
  b2 y := by
    obtain ⟨i, k, rfl⟩ : ∃ (i : Fin 1) (k : Fin 128), y = ix2 i k := ⟨_, _, eq_ix2 y⟩
    obtain rfl : i = 0 := Subsingleton.elim _ _
    rw [op_b2]; exact h.h5 _
  w3 y := by
    obtain ⟨i, k, rfl⟩ : ∃ (i : Fin 128) (k : Fin 64), y = ix2 i k := ⟨_, _, eq_ix2 y⟩
    rw [op_w3]; exact h.h6 _ _
  b3 y := by
    obtain ⟨i, k, rfl⟩ : ∃ (i : Fin 1) (k : Fin 64), y = ix2 i k := ⟨_, _, eq_ix2 y⟩
    obtain rfl : i = 0 := Subsingleton.elim _ _
    rw [op_b3]; exact h.h7 _
  w4 y := by
    obtain ⟨i, k, rfl⟩ : ∃ (i : Fin 64) (k : Fin 40), y = ix2 i k := ⟨_, _, eq_ix2 y⟩
    rw [op_w4]; exact h.h8 _ _

variable (m c)

theorem op_tab1 : (op m c).tab1 = next (a1 m c) (table0 (a0 m c) (a1 m c) (a2 m c) (a3 m c) (a4 m c)) (a5 m c) (a6 m c) := by
  funext k j
  unfold In.tab1 In.next0
  rw [op_row]
  unfold In.tab0
  simp only [op_s2, op_b2, op_w3]
  rfl

theorem op_tab2 : (op m c).tab2 = next (a1 m c) (next (a1 m c) (table0 (a0 m c) (a1 m c) (a2 m c) (a3 m c) (a4 m c)) (a5 m c) (a6 m c)) (a7 m c) (a8 m c) := by
  funext k j
  unfold In.tab2 In.next1
  rw [op_row, op_tab1]
  simp only [op_b3, op_w4]
  rfl

/-- One entry of the kernel's result. -/
theorem result_at (h : Args m c) (i : Fin 10000) (j : Fin 40) :
    (V4 m (outs m) c main_v8 : S10000x40.Idx → EReal) (ix2 i j)
      = net (a0 m c) (a1 m c) (a2 m c) (a3 m c) (a4 m c) (a5 m c) (a6 m c) (a7 m c) (a8 m c)
          (a9 m c) i j := by
  rw [result_eq]
  refine (congrFun (arr1_7 (V3 m (outs m)) c) (ix2 i j)).trans ?_
  rw [In.result_at (op m c) (i.val / 1000) ⟨i.val % 1000, Nat.mod_lt _ (by decide)⟩ i j
    (by show i.val = 1000 * (i.val / 1000) + i.val % 1000; omega), In.out_at h.real, op_row, op_tab2]
  simp only [op_b4]
  rfl

end Cert.KernelIdeal.Hand
-- ==== Proof.Reference.lean ====
module

public import proofs.«01_k».proof.Proof.Gen.ReferenceIdeal.Run
public import proofs.«01_k».proof.Proof.Gen.ReferenceIdeal.Read
public import proofs.«01_k».proof.Proof.Net

/-! The reference's result, read at an index, is the network. -/

@[expose] public section

set_option maxRecDepth 16384

namespace Cert.ReferenceIdeal.Hand

open Idealize.ShloMosaic
open Cert.ReferenceIdeal Cert.ReferenceIdeal.Gen Cert.ReferenceIdeal.Read
open Cert.Net

variable (x0 : (⟨S10000x128, .f32⟩ : BufTy).Contents (Elt Ideal)) (x1 : (⟨S10000x10000, .f32⟩ : BufTy).Contents (Elt Ideal)) (x2 : (⟨S128x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x40, .f32⟩ : BufTy).Contents (Elt Ideal)) (x9 : (⟨S40, .f32⟩ : BufTy).Contents (Elt Ideal))

theorem v5_at (i : Fin 10000) (j : Fin 256) : val_main_v5 (F := Ideal) x0 x1 x2 x3 (ix2 i j)
    = layer (fun k => x1 (ix2 i k)) (fun k => vm (fun l => x0 (ix2 k l)) fun l j => x2 (ix2 l j))
      (fun j => x3 (ix1 j)) j := by
  unfold layer vm
  pointwise [val_main_v5, val_main_v4, val_main_v3, val_main_v2, val_main_call0_v0, val_main_call0_cst, val_main_v1, val_main_v0]

theorem v6_at (i : Fin 10000) (j : Fin 128) : val_main_v6 (F := Ideal) x0 x1 x2 x3 x4 (ix2 i j)
    = (table0 (fun i j => x0 (ix2 i j)) (fun i j => x1 (ix2 i j)) (fun i j => x2 (ix2 i j)) (fun j => x3 (ix1 j)) (fun i j => x4 (ix2 i j))) i j := by
  unfold table0 vm
  rw [show val_main_v6 (F := Ideal) x0 x1 x2 x3 x4 (ix2 i j) = (∑ k, val_main_v5 (F := Ideal) x0 x1 x2 x3 (ix2 i k) * x4 (ix2 k j) : EReal) by
    unfold val_main_v6
    generalize val_main_v5 (F := Ideal) x0 x1 x2 x3 = y
    pointwise []]
  simp only [v5_at]
  rfl

theorem v11_at (i : Fin 10000) (j : Fin 128) : val_main_v11 (F := Ideal) x0 x1 x2 x3 x4 x5 (ix2 i j)
    = layer (fun k => x1 (ix2 i k)) (table0 (fun i j => x0 (ix2 i j)) (fun i j => x1 (ix2 i j)) (fun i j => x2 (ix2 i j)) (fun j => x3 (ix1 j)) (fun i j => x4 (ix2 i j))) (fun j => x5 (ix1 j)) j := by
  unfold layer
  rw [show val_main_v11 (F := Ideal) x0 x1 x2 x3 x4 x5 (ix2 i j)
      = (max ((∑ k, x1 (ix2 i k) * val_main_v6 (F := Ideal) x0 x1 x2 x3 x4 (ix2 k j)) + x5 (ix1 j)) 0 : EReal) by
    unfold val_main_v11 val_main_v10 val_main_v7
    generalize val_main_v6 (F := Ideal) x0 x1 x2 x3 x4 = y
    pointwise [val_main_v9, val_main_v8, val_main_call1_v0, val_main_call1_cst]]
  simp only [v6_at]

theorem v12_at (i : Fin 10000) (j : Fin 64) : val_main_v12 (F := Ideal) x0 x1 x2 x3 x4 x5 x6 (ix2 i j)
    = (next (fun i j => x1 (ix2 i j)) (table0 (fun i j => x0 (ix2 i j)) (fun i j => x1 (ix2 i j)) (fun i j => x2 (ix2 i j)) (fun j => x3 (ix1 j)) (fun i j => x4 (ix2 i j))) (fun j => x5 (ix1 j)) (fun i j => x6 (ix2 i j))) i j := by
  unfold next vm
  rw [show val_main_v12 (F := Ideal) x0 x1 x2 x3 x4 x5 x6 (ix2 i j)
      = (∑ k, val_main_v11 (F := Ideal) x0 x1 x2 x3 x4 x5 (ix2 i k) * x6 (ix2 k j) : EReal) by
    unfold val_main_v12
    generalize val_main_v11 (F := Ideal) x0 x1 x2 x3 x4 x5 = y
    pointwise []]
  simp only [v11_at]

theorem v17_at (i : Fin 10000) (j : Fin 64) : val_main_v17 (F := Ideal) x0 x1 x2 x3 x4 x5 x6 x7 (ix2 i j)
    = layer (fun k => x1 (ix2 i k)) (next (fun i j => x1 (ix2 i j)) (table0 (fun i j => x0 (ix2 i j)) (fun i j => x1 (ix2 i j)) (fun i j => x2 (ix2 i j)) (fun j => x3 (ix1 j)) (fun i j => x4 (ix2 i j))) (fun j => x5 (ix1 j)) (fun i j => x6 (ix2 i j))) (fun j => x7 (ix1 j)) j := by
  unfold layer
  rw [show val_main_v17 (F := Ideal) x0 x1 x2 x3 x4 x5 x6 x7 (ix2 i j)
      = (max ((∑ k, x1 (ix2 i k) * val_main_v12 (F := Ideal) x0 x1 x2 x3 x4 x5 x6 (ix2 k j)) + x7 (ix1 j)) 0 : EReal) by
    unfold val_main_v17 val_main_v16 val_main_v13
    generalize val_main_v12 (F := Ideal) x0 x1 x2 x3 x4 x5 x6 = y
    pointwise [val_main_v15, val_main_v14, val_main_call2_v0, val_main_call2_cst]]
  simp only [v12_at]

theorem v18_at (i : Fin 10000) (j : Fin 40) : val_main_v18 (F := Ideal) x0 x1 x2 x3 x4 x5 x6 x7 x8 (ix2 i j)
    = (next (fun i j => x1 (ix2 i j)) (next (fun i j => x1 (ix2 i j)) (table0 (fun i j => x0 (ix2 i j)) (fun i j => x1 (ix2 i j)) (fun i j => x2 (ix2 i j)) (fun j => x3 (ix1 j)) (fun i j => x4 (ix2 i j))) (fun j => x5 (ix1 j)) (fun i j => x6 (ix2 i j))) (fun j => x7 (ix1 j)) (fun i j => x8 (ix2 i j))) i j := by
  unfold next vm
  rw [show val_main_v18 (F := Ideal) x0 x1 x2 x3 x4 x5 x6 x7 x8 (ix2 i j)
      = (∑ k, val_main_v17 (F := Ideal) x0 x1 x2 x3 x4 x5 x6 x7 (ix2 i k) * x8 (ix2 k j) : EReal) by
    unfold val_main_v18
    generalize val_main_v17 (F := Ideal) x0 x1 x2 x3 x4 x5 x6 x7 = y
    pointwise []]
  simp only [v17_at]
  rfl

theorem v23_at (i : Fin 10000) (j : Fin 40) : val_main_v23 (F := Ideal) x0 x1 x2 x3 x4 x5 x6 x7 x8 x9 (ix2 i j)
    = layer (fun k => x1 (ix2 i k)) (next (fun i j => x1 (ix2 i j)) (next (fun i j => x1 (ix2 i j)) (table0 (fun i j => x0 (ix2 i j)) (fun i j => x1 (ix2 i j)) (fun i j => x2 (ix2 i j)) (fun j => x3 (ix1 j)) (fun i j => x4 (ix2 i j))) (fun j => x5 (ix1 j)) (fun i j => x6 (ix2 i j))) (fun j => x7 (ix1 j)) (fun i j => x8 (ix2 i j))) (fun j => x9 (ix1 j)) j := by
  unfold layer
  rw [show val_main_v23 (F := Ideal) x0 x1 x2 x3 x4 x5 x6 x7 x8 x9 (ix2 i j)
      = (max ((∑ k, x1 (ix2 i k) * val_main_v18 (F := Ideal) x0 x1 x2 x3 x4 x5 x6 x7 x8 (ix2 k j)) + x9 (ix1 j)) 0 : EReal) by
    unfold val_main_v23 val_main_v22 val_main_v19
    generalize val_main_v18 (F := Ideal) x0 x1 x2 x3 x4 x5 x6 x7 x8 = y
    pointwise [val_main_v21, val_main_v20, val_main_call3_v0, val_main_call3_cst]]
  simp only [v18_at]

/-- One entry of the reference's result. -/
theorem result_at (i : Fin 10000) (j : Fin 40) : val_main_v24 (F := Ideal) x0 x1 x2 x3 x4 x5 x6 x7 x8 x9 (ix2 i j)
    = net (fun i j => x0 (ix2 i j)) (fun i j => x1 (ix2 i j)) (fun i j => x2 (ix2 i j)) (fun j => x3 (ix1 j)) (fun i j => x4 (ix2 i j)) (fun j => x5 (ix1 j)) (fun i j => x6 (ix2 i j)) (fun j => x7 (ix1 j)) (fun i j => x8 (ix2 i j))
      (fun j => x9 (ix1 j)) i j := by
  have e : ∀ y, val_main_v23 (F := Ideal) x0 x1 x2 x3 x4 x5 x6 x7 x8 x9 = y →
      val_main_v24 (F := Ideal) x0 x1 x2 x3 x4 x5 x6 x7 x8 x9 (ix2 i j) = logSoftmax (fun j => y (ix2 i j)) j := by
    intro y hy
    unfold val_main_v24 val_main_call4_v5 val_main_call4_v10 val_main_call4_v9 val_main_call4_v8
      val_main_call4_v7 val_main_call4_v6 val_main_call4_v5 val_main_call4_v4 val_main_call4_v3
      val_main_call4_v2 val_main_call4_v1 val_main_call4_v0
    rw [hy]
    clear hy
    unfold logSoftmax
    pointwise []
    have h0 : ∀ i, val_main_call4_cst_0 (F := Ideal) i = (⊥ : EReal) := fun _ => ofBits_negInf
    have h1 : ∀ i, val_main_call4_cst (F := Ideal) i = (⊥ : EReal) := fun _ => ofBits_negInf
    have h2 : ∀ i, val_main_call4_cst_1 (F := Ideal) i = (0 : EReal) :=
      fun _ => Ideal.ofBits_zero_f32
    simp only [h0, h1, h2, max_bot_left, zero_add]
  rw [e _ rfl]
  simp only [v23_at]
  rfl

end Cert.ReferenceIdeal.Hand
-- ==== Proof.Inputs.lean ====
module

public import proofs.«01_k».proof.Pre_finite_inputs
public import proofs.«01_k».proof.Proof.Net

/-! The precondition read: an array of which every magnitude is below infinity holds real numbers. -/

@[expose] public section

set_option maxRecDepth 16384

namespace Cert.Pre_finite_inputs.Hand

open Idealize.ShloMosaic
open Cert.Net

theorem facts : Cert.Pre_finite_inputs.Facts where
  bcast_S_S10000x128 := by decide
  bcast_S_S10000x10000 := by decide
  bcast_S_S128x256 := by decide
  bcast_S_S256 := by decide
  bcast_S_S256x128 := by decide
  bcast_S_S128 := by decide
  bcast_S_S128x64 := by decide
  bcast_S_S64 := by decide
  bcast_S_S64x40 := by decide

theorem ofBits_posInf : Ideal.ofBits .f32 0x7F800000#32 = ⊤ := by
  simp [Ideal.ofBits, Ideal.ieee]

theorem isR_of_abs_lt {x : EReal} (h : max x (-x) < ⊤) : IsR x := by
  refine isR_of_ne ?_ ?_
  · rintro rfl
    simp at h
  · rintro rfl
    simp at h

theorem real_of {S : Shape} (h : S_.BroadcastsInDim S (![] : Fin 0 → Fin S.rank)) (x : FVec Ideal S .f32)
    (e : cmpf .olt (Host.absf x) (broadcastInDim S ![] h (constant S_ .f32 0x7F800000#32))
      = fun _ => 1#1) (y : S.Idx) : IsR (x y) := by
  have e' := congrFun e y
  apply isR_of_abs_lt
  rw [← ofBits_posInf]
  change Ideal.cmp .olt (max (x y) (-(x y))) (Ideal.ofBits .f32 0x7F800000#32) = 1#1 at e'
  by_contra hn
  rw [Ideal.cmp] at e'
  simp [hn] at e'

end Cert.Pre_finite_inputs.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.Result
public import proofs.«01_k».proof.Proof.Reference
public import proofs.«01_k».proof.Proof.Inputs
public import Idealize.ShloMosaic.Adequacy
public import Idealize.ShloMosaic.Init

@[expose] public section

noncomputable section

namespace Cert.Proof

open Idealize.ShloMosaic Idealize.SL.Sem Idealize.ShloMosaic.TcCoe

/-- The program on floats given by their bits: the run of its two regions, read at the arguments. -/
theorem frame_Kernel : @Cert.quiescent_Kernel Cert.Kernel.Gen.facts := fun m ρ _ =>
  (θ_run _ _ _).mono (fun _ h => ⟨fun c => (h.1 c).2, h.2⟩) (Cert.Kernel.Hand.run (F := Bits) m ρ)

/-- The ideal program likewise. -/
theorem frame_KernelIdeal : @Cert.quiescent_KernelIdeal Cert.KernelIdeal.Gen.facts := fun m ρ _ =>
  (θ_run _ _ _).mono (fun _ h => ⟨fun c => (h.1 c).2, h.2⟩) (Cert.KernelIdeal.Hand.run (F := Ideal) m ρ)

/-- The reference is straight-line and has no semaphore. -/
theorem frame_ReferenceIdeal : @Cert.quiescent_ReferenceIdeal Cert.ReferenceIdeal.Gen.facts := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The one constant that is read as a rational: the literal is `1/448` rounded. -/
theorem preserves : Cert.preserves_Kernel_KernelIdeal :=
  IdealRules.named_const.statement Cert.KernelIdeal.κ "inv_448" .f32 0x3B124925#32 ((1 / 448 : ℝ) : EReal) rfl

/-- With the precondition, likewise. -/
theorem frame_KernelIdeal_pre : @Cert.quiescent_KernelIdeal_pre_finite_inputs Cert.KernelIdeal.Gen.facts
    Cert.Pre_finite_inputs.Hand.facts := fun m ρ _ =>
  (θ_run _ _ _).mono (fun _ h => ⟨fun c => (h.1 c).2, h.2⟩) (Cert.KernelIdeal.Hand.run (F := Ideal) m ρ)

theorem frame_ReferenceIdeal_pre : @Cert.quiescent_ReferenceIdeal_pre_finite_inputs Cert.ReferenceIdeal.Gen.facts
    Cert.Pre_finite_inputs.Hand.facts := fun m ρ _ =>
  (θ_run _ _ _).mono (fun r h => ⟨fun c => (h c).2, Idealize.ShloMosaic.sem_eq_zero_of_no_sems (by decide) r.2⟩)
    (Cert.ReferenceIdeal.Value.run (F := Ideal) m ρ)

open Cert.Pre_finite_inputs.Hand (real_of) in
/-- The precondition says that every argument but the last bias holds real numbers. -/
theorem args_of_pre (m : (ℓ : Loc Cert.KernelIdeal.nD Cert.KernelIdeal.τ Cert.KernelIdeal.sig) → Buf (Elt Ideal) ℓ)
    (h : @Cert.Pre_KernelIdeal_finite_inputs Cert.Pre_finite_inputs.Hand.facts m) (c : Dev Cert.KernelIdeal.nD) :
    Cert.KernelIdeal.Hand.Args m c := by
  obtain ⟨e0, e1, e2, e3, e4, e5, e6, e7, e8⟩ := h c
  exact
    { h0 := fun i j => real_of Cert.Pre_finite_inputs.Hand.facts.bcast_S_S10000x128 _ e0 (ix2 i j)
      h1 := fun i j => real_of Cert.Pre_finite_inputs.Hand.facts.bcast_S_S10000x10000 _ e1 (ix2 i j)
      h2 := fun i j => real_of Cert.Pre_finite_inputs.Hand.facts.bcast_S_S128x256 _ e2 (ix2 i j)
      h3 := fun j => real_of Cert.Pre_finite_inputs.Hand.facts.bcast_S_S256 _ e3 (ix1 j)
      h4 := fun i j => real_of Cert.Pre_finite_inputs.Hand.facts.bcast_S_S256x128 _ e4 (ix2 i j)
      h5 := fun j => real_of Cert.Pre_finite_inputs.Hand.facts.bcast_S_S128 _ e5 (ix1 j)
      h6 := fun i j => real_of Cert.Pre_finite_inputs.Hand.facts.bcast_S_S128x64 _ e6 (ix2 i j)
      h7 := fun j => real_of Cert.Pre_finite_inputs.Hand.facts.bcast_S_S64 _ e7 (ix1 j)
      h8 := fun i j => real_of Cert.Pre_finite_inputs.Hand.facts.bcast_S_S64x40 _ e8 (ix2 i j) }

/-- The two programs' results are one network, index by index. -/
theorem results_eq (m : (ℓ : Loc Cert.KernelIdeal.nD Cert.KernelIdeal.τ Cert.KernelIdeal.sig) → Buf (Elt Ideal) ℓ)
    (c : Dev Cert.KernelIdeal.nD) (h : Cert.KernelIdeal.Hand.Args m c) :
    Cert.ReferenceIdeal.Read.val_main_v24 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      = (Cert.KernelIdeal.Gen.V4 m (Cert.KernelIdeal.Hand.outs m) c Cert.KernelIdeal.main_v8 :
          Cert.KernelIdeal.S10000x40.Idx → EReal) := by
  funext y
  obtain ⟨i, j, rfl⟩ : ∃ (i : Fin 10000) (j : Fin 40), y = ix2 i j := ⟨_, _, eq_ix2 y⟩
  exact (Cert.ReferenceIdeal.Hand.result_at _ _ _ _ _ _ _ _ _ _ i j).trans
    (Cert.KernelIdeal.Hand.result_at m c h i j).symm

/-- The kernel at the extended reals computes what the reference computes. -/
theorem algebraic : @Cert.algebraic_KernelIdeal_ReferenceIdeal_pre_finite_inputs Cert.KernelIdeal.Gen.facts
    Cert.ReferenceIdeal.Gen.facts Cert.Pre_finite_inputs.Hand.facts := by
  intro m g m' g' hpre hagree
  refine ⟨fun c => Cert.KernelIdeal.Gen.V4 m (Cert.KernelIdeal.Hand.outs m) c Cert.KernelIdeal.main_v8,
    (θ_run _ _ _).mono (fun _ h c => h.1 c) (Cert.KernelIdeal.Hand.run (F := Ideal) m g),
    (θ_run _ _ _).mono (fun r h c => ⟨?_, (h c).2⟩) (Cert.ReferenceIdeal.Value.run (F := Ideal) m' g')⟩
  obtain ⟨e0, e1, e2, e3, e4, e5, e6, e7, e8, e9⟩ := hagree c
  refine ((h c).1.trans (Cert.ReferenceIdeal.Read.val_main_v24_eq m' c)).trans ?_
  rw [e0, e1, e2, e3, e4, e5, e6, e7, e8, e9]
  exact results_eq m c (args_of_pre m hpre c)

theorem claim : Cert.Claim := ⟨Cert.Kernel.Gen.facts, Cert.KernelIdeal.Gen.facts, Cert.ReferenceIdeal.Gen.facts,
  Cert.Pre_finite_inputs.Hand.facts, frame_Kernel, frame_KernelIdeal, frame_KernelIdeal_pre, frame_ReferenceIdeal,
  frame_ReferenceIdeal_pre, preserves, algebraic⟩

end Cert.Proof

end
